-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_scores_distinct [hPre_top_scores_distinct : Cert.Pre_top_scores_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_top_scores_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_scores_distinct [hPre_top_scores_distinct : Cert.Pre_top_scores_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_scores_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_top_scores_distinct [hKernelIdeal : Cert.KernelIdeal.Facts] [hPre_top_scores_distinct : Cert.Pre_top_scores_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_scores_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_top_scores_distinct [hReferenceIdeal : Cert.ReferenceIdeal.Facts] [hPre_top_scores_distinct : Cert.Pre_top_scores_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_scores_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_top_scores_distinct [hKernelIdeal : Cert.KernelIdeal.Facts] [hReferenceIdeal : Cert.ReferenceIdeal.Facts] [hPre_top_scores_distinct : Cert.Pre_top_scores_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_scores_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_top_scores_distinct : Cert.Pre_top_scores_distinct.Facts),
    quiescent_Kernel (hKernel := hKernel)
    ∧ quiescent_KernelIdeal (hKernelIdeal := hKernelIdeal)
    ∧ quiescent_KernelIdeal_pre_top_scores_distinct (hKernelIdeal := hKernelIdeal) (hPre_top_scores_distinct := hPre_top_scores_distinct)
    ∧ quiescent_ReferenceIdeal (hReferenceIdeal := hReferenceIdeal)
    ∧ quiescent_ReferenceIdeal_pre_top_scores_distinct (hReferenceIdeal := hReferenceIdeal) (hPre_top_scores_distinct := hPre_top_scores_distinct)
    ∧ preserves_Kernel_KernelIdeal
    ∧ algebraic_KernelIdeal_ReferenceIdeal_pre_top_scores_distinct (hKernelIdeal := hKernelIdeal) (hReferenceIdeal := hReferenceIdeal) (hPre_top_scores_distinct := hPre_top_scores_distinct)
-- ==== Pre_top_scores_distinct.lean ====
abbrev S1024x64x384 : Shape := ⟨3, ![1024, 64, 384]⟩
abbrev S384x1152 : Shape := ⟨2, ![384, 1152]⟩
abbrev S1152 : Shape := ⟨1, ![1152]⟩
abbrev S225x12 : Shape := ⟨2, ![225, 12]⟩
abbrev S384x384 : Shape := ⟨2, ![384, 384]⟩
abbrev S384 : Shape := ⟨1, ![384]⟩
abbrev S4096 : Shape := ⟨1, ![4096]⟩
abbrev S1024x64x1152 : Shape := ⟨3, ![1024, 64, 1152]⟩
abbrev S1x1x1152 : Shape := ⟨3, ![1, 1, 1152]⟩
abbrev S1024x64x3x12x32 : Shape := ⟨5, ![1024, 64, 3, 12, 32]⟩
abbrev S3x1024x12x64x32 : Shape := ⟨5, ![3, 1024, 12, 64, 32]⟩
abbrev S1x1024x12x64x32 : Shape := ⟨5, ![1, 1024, 12, 64, 32]⟩
abbrev S1024x12x64x32 : Shape := ⟨4, ![1024, 12, 64, 32]⟩
abbrev S_ : Shape := ⟨0, ![]⟩
abbrev S1024x12x64x64 : Shape := ⟨4, ![1024, 12, 64, 64]⟩
abbrev S4096x1 : Shape := ⟨2, ![4096, 1]⟩
abbrev S4096x12 : Shape := ⟨2, ![4096, 12]⟩
abbrev S64x64x12 : Shape := ⟨3, ![64, 64, 12]⟩
abbrev S12x64x64 : Shape := ⟨3, ![12, 64, 64]⟩
abbrev S1x12x64x64 : Shape := ⟨4, ![1, 12, 64, 64]⟩
abbrev S1024x12x64x17 : Shape := ⟨4, ![1024, 12, 64, 17]⟩
abbrev S1024x12x64x16 : Shape := ⟨4, ![1024, 12, 64, 16]⟩

class Facts : Prop where
  bcast_S1152_S1x1x1152_2 : S1152.BroadcastsInDim S1x1x1152 (![2] : Fin 1 → Fin S1x1x1152.rank)
  bcast_S1x1x1152_S1024x64x1152_0_1_2 : S1x1x1152.BroadcastsInDim S1024x64x1152 (![0, 1, 2] : Fin 3 → Fin S1024x64x1152.rank)
  shapeCasts_S1024x64x1152_S1024x64x3x12x32 : S1024x64x1152.ShapeCasts S1024x64x3x12x32
  transposes_S1024x64x3x12x32_S3x1024x12x64x32_2_0_3_1_4 : S1024x64x3x12x32.Transposes [2, 0, 3, 1, 4] S3x1024x12x64x32
  slices_S3x1024x12x64x32_S1x1024x12x64x32_0_0_0_0_0 : S3x1024x12x64x32.Slices ![0, 0, 0, 0, 0] S1x1024x12x64x32
  shapeCasts_S1x1024x12x64x32_S1024x12x64x32 : S1x1024x12x64x32.ShapeCasts S1024x12x64x32
  bcast_S_S1024x12x64x32 : S_.BroadcastsInDim S1024x12x64x32 (![] : Fin 0 → Fin S1024x12x64x32.rank)
  slices_S3x1024x12x64x32_S1x1024x12x64x32_1_0_0_0_0 : S3x1024x12x64x32.Slices ![1, 0, 0, 0, 0] S1x1024x12x64x32
  bcast_S_S4096 : S_.BroadcastsInDim S4096 (![] : Fin 0 → Fin S4096.rank)
  bcast_S4096_S4096x1_0 : S4096.BroadcastsInDim S4096x1 (![0] : Fin 1 → Fin S4096x1.rank)
  shapeCasts_S4096x12_S64x64x12 : S4096x12.ShapeCasts S64x64x12
  transposes_S64x64x12_S12x64x64_2_0_1 : S64x64x12.Transposes [2, 0, 1] S12x64x64
  bcast_S12x64x64_S1x12x64x64_1_2_3 : S12x64x64.BroadcastsInDim S1x12x64x64 (![1, 2, 3] : Fin 3 → Fin S1x12x64x64.rank)
  bcast_S1x12x64x64_S1024x12x64x64_0_1_2_3 : S1x12x64x64.BroadcastsInDim S1024x12x64x64 (![0, 1, 2, 3] : Fin 4 → Fin S1024x12x64x64.rank)
  sliceFits_S1024x12x64x64_S1024x12x64x17 : S1024x12x64x64.Slices (fun _ => 0) S1024x12x64x17
  slices_S1024x12x64x17_S1024x12x64x16_0_0_0_0 : S1024x12x64x17.Slices ![0, 0, 0, 0] S1024x12x64x16
  slices_S1024x12x64x17_S1024x12x64x16_0_0_0_1 : S1024x12x64x17.Slices ![0, 0, 0, 1] S1024x12x64x16
  bcast_S_S1024x12x64x16 : S_.BroadcastsInDim S1024x12x64x16 (![] : Fin 0 → Fin S1024x12x64x16.rank)
  dot_S1024x64x384_S384x1152_S1024x64x1152_2_0_01_1_n_n_wf : DotDims.WF S1024x64x384 S384x1152 S1024x64x1152 [2] [0] [0, 1] [1] [] []
  dot_S1024x12x64x32_S1024x12x64x32_S1024x12x64x64_3_3_2_2_01_01_wf : DotDims.WF S1024x12x64x32 S1024x12x64x32 S1024x12x64x64 [3] [3] [2] [2] [0, 1] [0, 1]
  gather_S225x12_S4096x1_S4096x12_1_0_n_n_0_1_112_wf : GatherDims.WF S225x12 S4096x1 S4096x12 [1] [0] [] [0] [] 1 ![1, 12]

variable [Facts]

def dot_S1024x64x384_S384x1152_S1024x64x1152_2_0_01_1_n_n : DotDims S1024x64x384 S384x1152 S1024x64x1152 where
  lhsContracting := [2]
  rhsContracting := [0]
  lhsNonContracting := [0, 1]
  rhsNonContracting := [1]
  lhsBatch := []
  rhsBatch := []
  wf := dot_S1024x64x384_S384x1152_S1024x64x1152_2_0_01_1_n_n_wf
def dot_S1024x12x64x32_S1024x12x64x32_S1024x12x64x64_3_3_2_2_01_01 : DotDims S1024x12x64x32 S1024x12x64x32 S1024x12x64x64 where
  lhsContracting := [3]
  rhsContracting := [3]
  lhsNonContracting := [2]
  rhsNonContracting := [2]
  lhsBatch := [0, 1]
  rhsBatch := [0, 1]
  wf := dot_S1024x12x64x32_S1024x12x64x32_S1024x12x64x64_3_3_2_2_01_01_wf
def gather_S225x12_S4096x1_S4096x12_1_0_n_n_0_1_112 : GatherDims S225x12 S4096x1 S4096x12 where
  offsetDims := [1]
  collapsedSliceDims := [0]
  operandBatchingDims := []
  startIndicesBatchingDims := []
  startIndexMap := [0]
  indexVectorDim := 1
  sliceSizes := ![1, 12]
  wf := gather_S225x12_S4096x1_S4096x12_1_0_n_n_0_1_112_wf

noncomputable abbrev lit0t0_0 (i : Nat) : BitVec 32 := match i % 128 with
  | 0 => 112#32
  | 1 => 111#32
  | 2 => 110#32
  | 3 => 109#32
  | 4 => 108#32
  | 5 => 107#32
  | 6 => 106#32
  | 7 => 105#32
  | 8 => 97#32
  | 9 => 96#32
  | 10 => 95#32
  | 11 => 94#32
  | 12 => 93#32
  | 13 => 92#32
  | 14 => 91#32
  | 15 => 90#32
  | 16 => 82#32
  | 17 => 81#32
  | 18 => 80#32
  | 19 => 79#32
  | 20 => 78#32
  | 21 => 77#32
  | 22 => 76#32
  | 23 => 75#32
  | 24 => 67#32
  | 25 => 66#32
  | 26 => 65#32
  | 27 => 64#32
  | 28 => 63#32
  | 29 => 62#32
  | 30 => 61#32
  | 31 => 60#32
  | 32 => 52#32
  | 33 => 51#32
  | 34 => 50#32
  | 35 => 49#32
  | 36 => 48#32
  | 37 => 47#32
  | 38 => 46#32
  | 39 => 45#32
  | 40 => 37#32
  | 41 => 36#32
  | 42 => 35#32
  | 43 => 34#32
  | 44 => 33#32
  | 45 => 32#32
  | 46 => 31#32
  | 47 => 30#32
  | 48 => 22#32
  | 49 => 21#32
  | 50 => 20#32
  | 51 => 19#32
  | 52 => 18#32
  | 53 => 17#32
  | 54 => 16#32
  | 55 => 15#32
  | 56 => 7#32
  | 57 => 6#32
  | 58 => 5#32
  | 59 => 4#32
  | 60 => 3#32
  | 61 => 2#32
  | 62 => 1#32
  | 63 => 0#32
  | 64 => 113#32
  | 65 => 112#32
  | 66 => 111#32
  | 67 => 110#32
  | 68 => 109#32
  | 69 => 108#32
  | 70 => 107#32
  | 71 => 106#32
  | 72 => 98#32
  | 73 => 97#32
  | 74 => 96#32
  | 75 => 95#32
  | 76 => 94#32
  | 77 => 93#32
  | 78 => 92#32
  | 79 => 91#32
  | 80 => 83#32
  | 81 => 82#32
  | 82 => 81#32
  | 83 => 80#32
  | 84 => 79#32
  | 85 => 78#32
  | 86 => 77#32
  | 87 => 76#32
  | 88 => 68#32
  | 89 => 67#32
  | 90 => 66#32
  | 91 => 65#32
  | 92 => 64#32
  | 93 => 63#32
  | 94 => 62#32
  | 95 => 61#32
  | 96 => 53#32
  | 97 => 52#32
  | 98 => 51#32
  | 99 => 50#32
  | 100 => 49#32
  | 101 => 48#32
  | 102 => 47#32
  | 103 => 46#32
  | 104 => 38#32
  | 105 => 37#32
  | 106 => 36#32
  | 107 => 35#32
  | 108 => 34#32
  | 109 => 33#32
  | 110 => 32#32
  | 111 => 31#32
  | 112 => 23#32
  | 113 => 22#32
  | 114 => 21#32
  | 115 => 20#32
  | 116 => 19#32
  | 117 => 18#32
  | 118 => 17#32
  | 119 => 16#32
  | 120 => 8#32
  | 121 => 7#32
  | 122 => 6#32
  | 123 => 5#32
  | 124 => 4#32
  | 125 => 3#32
  | 126 => 2#32
  | 127 => 1#32
  | _ => 0#32

noncomputable abbrev lit0t0_1 (i : Nat) : BitVec 32 := match i % 128 with
  | 0 => 114#32
  | 1 => 113#32
  | 2 => 112#32
  | 3 => 111#32
  | 4 => 110#32
  | 5 => 109#32
  | 6 => 108#32
  | 7 => 107#32
  | 8 => 99#32
  | 9 => 98#32
  | 10 => 97#32
  | 11 => 96#32
  | 12 => 95#32
  | 13 => 94#32
  | 14 => 93#32
  | 15 => 92#32
  | 16 => 84#32
  | 17 => 83#32
  | 18 => 82#32
  | 19 => 81#32
  | 20 => 80#32
  | 21 => 79#32
  | 22 => 78#32
  | 23 => 77#32
  | 24 => 69#32
  | 25 => 68#32
  | 26 => 67#32
  | 27 => 66#32
  | 28 => 65#32
  | 29 => 64#32
  | 30 => 63#32
  | 31 => 62#32
  | 32 => 54#32
  | 33 => 53#32
  | 34 => 52#32
  | 35 => 51#32
  | 36 => 50#32
  | 37 => 49#32
  | 38 => 48#32
  | 39 => 47#32
  | 40 => 39#32
  | 41 => 38#32
  | 42 => 37#32
  | 43 => 36#32
  | 44 => 35#32
  | 45 => 34#32
  | 46 => 33#32
  | 47 => 32#32
  | 48 => 24#32
  | 49 => 23#32
  | 50 => 22#32
  | 51 => 21#32
  | 52 => 20#32
  | 53 => 19#32
  | 54 => 18#32
  | 55 => 17#32
  | 56 => 9#32
  | 57 => 8#32
  | 58 => 7#32
  | 59 => 6#32
  | 60 => 5#32
  | 61 => 4#32
  | 62 => 3#32
  | 63 => 2#32
  | 64 => 115#32
  | 65 => 114#32
  | 66 => 113#32
  | 67 => 112#32
  | 68 => 111#32
  | 69 => 110#32
  | 70 => 109#32
  | 71 => 108#32
  | 72 => 100#32
  | 73 => 99#32
  | 74 => 98#32
  | 75 => 97#32
  | 76 => 96#32
  | 77 => 95#32
  | 78 => 94#32
  | 79 => 93#32
  | 80 => 85#32
  | 81 => 84#32
  | 82 => 83#32
  | 83 => 82#32
  | 84 => 81#32
  | 85 => 80#32
  | 86 => 79#32
  | 87 => 78#32
  | 88 => 70#32
  | 89 => 69#32
  | 90 => 68#32
  | 91 => 67#32
  | 92 => 66#32
  | 93 => 65#32
  | 94 => 64#32
  | 95 => 63#32
  | 96 => 55#32
  | 97 => 54#32
  | 98 => 53#32
  | 99 => 52#32
  | 100 => 51#32
  | 101 => 50#32
  | 102 => 49#32
  | 103 => 48#32
  | 104 => 40#32
  | 105 => 39#32
  | 106 => 38#32
  | 107 => 37#32
  | 108 => 36#32
  | 109 => 35#32
  | 110 => 34#32
  | 111 => 33#32
  | 112 => 25#32
  | 113 => 24#32
  | 114 => 23#32
  | 115 => 22#32
  | 116 => 21#32
  | 117 => 20#32
  | 118 => 19#32
  | 119 => 18#32
  | 120 => 10#32
  | 121 => 9#32
  | 122 => 8#32
  | 123 => 7#32
  | 124 => 6#32
  | 125 => 5#32
  | 126 => 4#32
  | 127 => 3#32
  | _ => 0#32

noncomputable abbrev lit0t0_2 (i : Nat) : BitVec 32 := match i % 128 with
  | 0 => 116#32
  | 1 => 115#32
  | 2 => 114#32
  | 3 => 113#32
  | 4 => 112#32
  | 5 => 111#32
  | 6 => 110#32
  | 7 => 109#32
  | 8 => 101#32
  | 9 => 100#32
  | 10 => 99#32
  | 11 => 98#32
  | 12 => 97#32
  | 13 => 96#32
  | 14 => 95#32
  | 15 => 94#32
  | 16 => 86#32
  | 17 => 85#32
  | 18 => 84#32
  | 19 => 83#32
  | 20 => 82#32
  | 21 => 81#32
  | 22 => 80#32
  | 23 => 79#32
  | 24 => 71#32
  | 25 => 70#32
  | 26 => 69#32
  | 27 => 68#32
  | 28 => 67#32
  | 29 => 66#32
  | 30 => 65#32
  | 31 => 64#32
  | 32 => 56#32
  | 33 => 55#32
  | 34 => 54#32
  | 35 => 53#32
  | 36 => 52#32
  | 37 => 51#32
  | 38 => 50#32
  | 39 => 49#32
  | 40 => 41#32
  | 41 => 40#32
  | 42 => 39#32
  | 43 => 38#32
  | 44 => 37#32
  | 45 => 36#32
  | 46 => 35#32
  | 47 => 34#32
  | 48 => 26#32
  | 49 => 25#32
  | 50 => 24#32
  | 51 => 23#32
  | 52 => 22#32
  | 53 => 21#32
  | 54 => 20#32
  | 55 => 19#32
  | 56 => 11#32
  | 57 => 10#32
  | 58 => 9#32
  | 59 => 8#32
  | 60 => 7#32
  | 61 => 6#32
  | 62 => 5#32
  | 63 => 4#32
  | 64 => 117#32
  | 65 => 116#32
  | 66 => 115#32
  | 67 => 114#32
  | 68 => 113#32
  | 69 => 112#32
  | 70 => 111#32
  | 71 => 110#32
  | 72 => 102#32
  | 73 => 101#32
  | 74 => 100#32
  | 75 => 99#32
  | 76 => 98#32
  | 77 => 97#32
  | 78 => 96#32
  | 79 => 95#32
  | 80 => 87#32
  | 81 => 86#32
  | 82 => 85#32
  | 83 => 84#32
  | 84 => 83#32
  | 85 => 82#32
  | 86 => 81#32
  | 87 => 80#32
  | 88 => 72#32
  | 89 => 71#32
  | 90 => 70#32
  | 91 => 69#32
  | 92 => 68#32
  | 93 => 67#32
  | 94 => 66#32
  | 95 => 65#32
  | 96 => 57#32
  | 97 => 56#32
  | 98 => 55#32
  | 99 => 54#32
  | 100 => 53#32
  | 101 => 52#32
  | 102 => 51#32
  | 103 => 50#32
  | 104 => 42#32
  | 105 => 41#32
  | 106 => 40#32
  | 107 => 39#32
  | 108 => 38#32
  | 109 => 37#32
  | 110 => 36#32
  | 111 => 35#32
  | 112 => 27#32
  | 113 => 26#32
  | 114 => 25#32
  | 115 => 24#32
  | 116 => 23#32
  | 117 => 22#32
  | 118 => 21#32
  | 119 => 20#32
  | 120 => 12#32
  | 121 => 11#32
  | 122 => 10#32
  | 123 => 9#32
  | 124 => 8#32
  | 125 => 7#32
  | 126 => 6#32
  | 127 => 5#32
  | _ => 0#32

noncomputable abbrev lit0t0_3 (i : Nat) : BitVec 32 := match i % 128 with
  | 0 => 118#32
  | 1 => 117#32
  | 2 => 116#32
  | 3 => 115#32
  | 4 => 114#32
  | 5 => 113#32
  | 6 => 112#32
  | 7 => 111#32
  | 8 => 103#32
  | 9 => 102#32
  | 10 => 101#32
  | 11 => 100#32
  | 12 => 99#32
  | 13 => 98#32
  | 14 => 97#32
  | 15 => 96#32
  | 16 => 88#32
  | 17 => 87#32
  | 18 => 86#32
  | 19 => 85#32
  | 20 => 84#32
  | 21 => 83#32
  | 22 => 82#32
  | 23 => 81#32
  | 24 => 73#32
  | 25 => 72#32
  | 26 => 71#32
  | 27 => 70#32
  | 28 => 69#32
  | 29 => 68#32
  | 30 => 67#32
  | 31 => 66#32
  | 32 => 58#32
  | 33 => 57#32
  | 34 => 56#32
  | 35 => 55#32
  | 36 => 54#32
  | 37 => 53#32
  | 38 => 52#32
  | 39 => 51#32
  | 40 => 43#32
  | 41 => 42#32
  | 42 => 41#32
  | 43 => 40#32
  | 44 => 39#32
  | 45 => 38#32
  | 46 => 37#32
  | 47 => 36#32
  | 48 => 28#32
  | 49 => 27#32
  | 50 => 26#32
  | 51 => 25#32
  | 52 => 24#32
  | 53 => 23#32
  | 54 => 22#32
  | 55 => 21#32
  | 56 => 13#32
  | 57 => 12#32
  | 58 => 11#32
  | 59 => 10#32
  | 60 => 9#32
  | 61 => 8#32
  | 62 => 7#32
  | 63 => 6#32
  | 64 => 119#32
  | 65 => 118#32
  | 66 => 117#32
  | 67 => 116#32
  | 68 => 115#32
  | 69 => 114#32
  | 70 => 113#32
  | 71 => 112#32
  | 72 => 104#32
  | 73 => 103#32
  | 74 => 102#32
  | 75 => 101#32
  | 76 => 100#32
  | 77 => 99#32
  | 78 => 98#32
  | 79 => 97#32
  | 80 => 89#32
  | 81 => 88#32
  | 82 => 87#32
  | 83 => 86#32
  | 84 => 85#32
  | 85 => 84#32
  | 86 => 83#32
  | 87 => 82#32
  | 88 => 74#32
  | 89 => 73#32
  | 90 => 72#32
  | 91 => 71#32
  | 92 => 70#32
  | 93 => 69#32
  | 94 => 68#32
  | 95 => 67#32
  | 96 => 59#32
  | 97 => 58#32
  | 98 => 57#32
  | 99 => 56#32
  | 100 => 55#32
  | 101 => 54#32
  | 102 => 53#32
  | 103 => 52#32
  | 104 => 44#32
  | 105 => 43#32
  | 106 => 42#32
  | 107 => 41#32
  | 108 => 40#32
  | 109 => 39#32
  | 110 => 38#32
  | 111 => 37#32
  | 112 => 29#32
  | 113 => 28#32
  | 114 => 27#32
  | 115 => 26#32
  | 116 => 25#32
  | 117 => 24#32
  | 118 => 23#32
  | 119 => 22#32
  | 120 => 14#32
  | 121 => 13#32
  | 122 => 12#32
  | 123 => 11#32
  | 124 => 10#32
  | 125 => 9#32
  | 126 => 8#32
  | 127 => 7#32
  | _ => 0#32

noncomputable abbrev lit0t0_4 (i : Nat) : BitVec 32 := match i % 128 with
  | 0 => 127#32
  | 1 => 126#32
  | 2 => 125#32
  | 3 => 124#32
  | 4 => 123#32
  | 5 => 122#32
  | 6 => 121#32
  | 7 => 120#32
  | 8 => 112#32
  | 9 => 111#32
  | 10 => 110#32
  | 11 => 109#32
  | 12 => 108#32
  | 13 => 107#32
  | 14 => 106#32
  | 15 => 105#32
  | 16 => 97#32
  | 17 => 96#32
  | 18 => 95#32
  | 19 => 94#32
  | 20 => 93#32
  | 21 => 92#32
  | 22 => 91#32
  | 23 => 90#32
  | 24 => 82#32
  | 25 => 81#32
  | 26 => 80#32
  | 27 => 79#32
  | 28 => 78#32
  | 29 => 77#32
  | 30 => 76#32
  | 31 => 75#32
  | 32 => 67#32
  | 33 => 66#32
  | 34 => 65#32
  | 35 => 64#32
  | 36 => 63#32
  | 37 => 62#32
  | 38 => 61#32
  | 39 => 60#32
  | 40 => 52#32
  | 41 => 51#32
  | 42 => 50#32
  | 43 => 49#32
  | 44 => 48#32
  | 45 => 47#32
  | 46 => 46#32
  | 47 => 45#32
  | 48 => 37#32
  | 49 => 36#32
  | 50 => 35#32
  | 51 => 34#32
  | 52 => 33#32
  | 53 => 32#32
  | 54 => 31#32
  | 55 => 30#32
  | 56 => 22#32
  | 57 => 21#32
  | 58 => 20#32
  | 59 => 19#32
  | 60 => 18#32
  | 61 => 17#32
  | 62 => 16#32
  | 63 => 15#32
  | 64 => 128#32
  | 65 => 127#32
  | 66 => 126#32
  | 67 => 125#32
  | 68 => 124#32
  | 69 => 123#32
  | 70 => 122#32
  | 71 => 121#32
  | 72 => 113#32
  | 73 => 112#32
  | 74 => 111#32
  | 75 => 110#32
  | 76 => 109#32
  | 77 => 108#32
  | 78 => 107#32
  | 79 => 106#32
  | 80 => 98#32
  | 81 => 97#32
  | 82 => 96#32
  | 83 => 95#32
  | 84 => 94#32
  | 85 => 93#32
  | 86 => 92#32
  | 87 => 91#32
  | 88 => 83#32
  | 89 => 82#32
  | 90 => 81#32
  | 91 => 80#32
  | 92 => 79#32
  | 93 => 78#32
  | 94 => 77#32
  | 95 => 76#32
  | 96 => 68#32
  | 97 => 67#32
  | 98 => 66#32
  | 99 => 65#32
  | 100 => 64#32
  | 101 => 63#32
  | 102 => 62#32
  | 103 => 61#32
  | 104 => 53#32
  | 105 => 52#32
  | 106 => 51#32
  | 107 => 50#32
  | 108 => 49#32
  | 109 => 48#32
  | 110 => 47#32
  | 111 => 46#32
  | 112 => 38#32
  | 113 => 37#32
  | 114 => 36#32
  | 115 => 35#32
  | 116 => 34#32
  | 117 => 33#32
  | 118 => 32#32
  | 119 => 31#32
  | 120 => 23#32
  | 121 => 22#32
  | 122 => 21#32
  | 123 => 20#32
  | 124 => 19#32
  | 125 => 18#32
  | 126 => 17#32
  | 127 => 16#32
  | _ => 0#32

noncomputable abbrev lit0t0_5 (i : Nat) : BitVec 32 := match i % 128 with
  | 0 => 129#32
  | 1 => 128#32
  | 2 => 127#32
  | 3 => 126#32
  | 4 => 125#32
  | 5 => 124#32
  | 6 => 123#32
  | 7 => 122#32
  | 8 => 114#32
  | 9 => 113#32
  | 10 => 112#32
  | 11 => 111#32
  | 12 => 110#32
  | 13 => 109#32
  | 14 => 108#32
  | 15 => 107#32
  | 16 => 99#32
  | 17 => 98#32
  | 18 => 97#32
  | 19 => 96#32
  | 20 => 95#32
  | 21 => 94#32
  | 22 => 93#32
  | 23 => 92#32
  | 24 => 84#32
  | 25 => 83#32
  | 26 => 82#32
  | 27 => 81#32
  | 28 => 80#32
  | 29 => 79#32
  | 30 => 78#32
  | 31 => 77#32
  | 32 => 69#32
  | 33 => 68#32
  | 34 => 67#32
  | 35 => 66#32
  | 36 => 65#32
  | 37 => 64#32
  | 38 => 63#32
  | 39 => 62#32
  | 40 => 54#32
  | 41 => 53#32
  | 42 => 52#32
  | 43 => 51#32
  | 44 => 50#32
  | 45 => 49#32
  | 46 => 48#32
  | 47 => 47#32
  | 48 => 39#32
  | 49 => 38#32
  | 50 => 37#32
  | 51 => 36#32
  | 52 => 35#32
  | 53 => 34#32
  | 54 => 33#32
  | 55 => 32#32
  | 56 => 24#32
  | 57 => 23#32
  | 58 => 22#32
  | 59 => 21#32
  | 60 => 20#32
  | 61 => 19#32
  | 62 => 18#32
  | 63 => 17#32
  | 64 => 130#32
  | 65 => 129#32
  | 66 => 128#32
  | 67 => 127#32
  | 68 => 126#32
  | 69 => 125#32
  | 70 => 124#32
  | 71 => 123#32
  | 72 => 115#32
  | 73 => 114#32
  | 74 => 113#32
  | 75 => 112#32
  | 76 => 111#32
  | 77 => 110#32
  | 78 => 109#32
  | 79 => 108#32
  | 80 => 100#32
  | 81 => 99#32
  | 82 => 98#32
  | 83 => 97#32
  | 84 => 96#32
  | 85 => 95#32
  | 86 => 94#32
  | 87 => 93#32
  | 88 => 85#32
  | 89 => 84#32
  | 90 => 83#32
  | 91 => 82#32
  | 92 => 81#32
  | 93 => 80#32
  | 94 => 79#32
  | 95 => 78#32
  | 96 => 70#32
  | 97 => 69#32
  | 98 => 68#32
  | 99 => 67#32
  | 100 => 66#32
  | 101 => 65#32
  | 102 => 64#32
  | 103 => 63#32
  | 104 => 55#32
  | 105 => 54#32
  | 106 => 53#32
  | 107 => 52#32
  | 108 => 51#32
  | 109 => 50#32
  | 110 => 49#32
  | 111 => 48#32
  | 112 => 40#32
  | 113 => 39#32
  | 114 => 38#32
  | 115 => 37#32
  | 116 => 36#32
  | 117 => 35#32
  | 118 => 34#32
  | 119 => 33#32
  | 120 => 25#32
  | 121 => 24#32
  | 122 => 23#32
  | 123 => 22#32
  | 124 => 21#32
  | 125 => 20#32
  | 126 => 19#32
  | 127 => 18#32
  | _ => 0#32

noncomputable abbrev lit0t0_6 (i : Nat) : BitVec 32 := match i % 128 with
  | 0 => 131#32
  | 1 => 130#32
  | 2 => 129#32
  | 3 => 128#32
  | 4 => 127#32
  | 5 => 126#32
  | 6 => 125#32
  | 7 => 124#32
  | 8 => 116#32
  | 9 => 115#32
  | 10 => 114#32
  | 11 => 113#32
  | 12 => 112#32
  | 13 => 111#32
  | 14 => 110#32
  | 15 => 109#32
  | 16 => 101#32
  | 17 => 100#32
  | 18 => 99#32
  | 19 => 98#32
  | 20 => 97#32
  | 21 => 96#32
  | 22 => 95#32
  | 23 => 94#32
  | 24 => 86#32
  | 25 => 85#32
  | 26 => 84#32
  | 27 => 83#32
  | 28 => 82#32
  | 29 => 81#32
  | 30 => 80#32
  | 31 => 79#32
  | 32 => 71#32
  | 33 => 70#32
  | 34 => 69#32
  | 35 => 68#32
  | 36 => 67#32
  | 37 => 66#32
  | 38 => 65#32
  | 39 => 64#32
  | 40 => 56#32
  | 41 => 55#32
  | 42 => 54#32
  | 43 => 53#32
  | 44 => 52#32
  | 45 => 51#32
  | 46 => 50#32
  | 47 => 49#32
  | 48 => 41#32
  | 49 => 40#32
  | 50 => 39#32
  | 51 => 38#32
  | 52 => 37#32
  | 53 => 36#32
  | 54 => 35#32
  | 55 => 34#32
  | 56 => 26#32
  | 57 => 25#32
  | 58 => 24#32
  | 59 => 23#32
  | 60 => 22#32
  | 61 => 21#32
  | 62 => 20#32
  | 63 => 19#32
  | 64 => 132#32
  | 65 => 131#32
  | 66 => 130#32
  | 67 => 129#32
  | 68 => 128#32
  | 69 => 127#32
  | 70 => 126#32
  | 71 => 125#32
  | 72 => 117#32
  | 73 => 116#32
  | 74 => 115#32
  | 75 => 114#32
  | 76 => 113#32
  | 77 => 112#32
  | 78 => 111#32
  | 79 => 110#32
  | 80 => 102#32
  | 81 => 101#32
  | 82 => 100#32
  | 83 => 99#32
  | 84 => 98#32
  | 85 => 97#32
  | 86 => 96#32
  | 87 => 95#32
  | 88 => 87#32
  | 89 => 86#32
  | 90 => 85#32
  | 91 => 84#32
  | 92 => 83#32
  | 93 => 82#32
  | 94 => 81#32
  | 95 => 80#32
  | 96 => 72#32
  | 97 => 71#32
  | 98 => 70#32
  | 99 => 69#32
  | 100 => 68#32
  | 101 => 67#32
  | 102 => 66#32
  | 103 => 65#32
  | 104 => 57#32
  | 105 => 56#32
  | 106 => 55#32
  | 107 => 54#32
  | 108 => 53#32
  | 109 => 52#32
  | 110 => 51#32
  | 111 => 50#32
  | 112 => 42#32
  | 113 => 41#32
  | 114 => 40#32
  | 115 => 39#32
  | 116 => 38#32
  | 117 => 37#32
  | 118 => 36#32
  | 119 => 35#32
  | 120 => 27#32
  | 121 => 26#32
  | 122 => 25#32
  | 123 => 24#32
  | 124 => 23#32
  | 125 => 22#32
  | 126 => 21#32
  | 127 => 20#32
  | _ => 0#32

noncomputable abbrev lit0t0_7 (i : Nat) : BitVec 32 := match i % 128 with
  | 0 => 133#32
  | 1 => 132#32
  | 2 => 131#32
  | 3 => 130#32
  | 4 => 129#32
  | 5 => 128#32
  | 6 => 127#32
  | 7 => 126#32
  | 8 => 118#32
  | 9 => 117#32
  | 10 => 116#32
  | 11 => 115#32
  | 12 => 114#32
  | 13 => 113#32
  | 14 => 112#32
  | 15 => 111#32
  | 16 => 103#32
  | 17 => 102#32
  | 18 => 101#32
  | 19 => 100#32
  | 20 => 99#32
  | 21 => 98#32
  | 22 => 97#32
  | 23 => 96#32
  | 24 => 88#32
  | 25 => 87#32
  | 26 => 86#32
  | 27 => 85#32
  | 28 => 84#32
  | 29 => 83#32
  | 30 => 82#32
  | 31 => 81#32
  | 32 => 73#32
  | 33 => 72#32
  | 34 => 71#32
  | 35 => 70#32
  | 36 => 69#32
  | 37 => 68#32
  | 38 => 67#32
  | 39 => 66#32
  | 40 => 58#32
  | 41 => 57#32
  | 42 => 56#32
  | 43 => 55#32
  | 44 => 54#32
  | 45 => 53#32
  | 46 => 52#32
  | 47 => 51#32
  | 48 => 43#32
  | 49 => 42#32
  | 50 => 41#32
  | 51 => 40#32
  | 52 => 39#32
  | 53 => 38#32
  | 54 => 37#32
  | 55 => 36#32
  | 56 => 28#32
  | 57 => 27#32
  | 58 => 26#32
  | 59 => 25#32
  | 60 => 24#32
  | 61 => 23#32
  | 62 => 22#32
  | 63 => 21#32
  | 64 => 134#32
  | 65 => 133#32
  | 66 => 132#32
  | 67 => 131#32
  | 68 => 130#32
  | 69 => 129#32
  | 70 => 128#32
  | 71 => 127#32
  | 72 => 119#32
  | 73 => 118#32
  | 74 => 117#32
  | 75 => 116#32
  | 76 => 115#32
  | 77 => 114#32
  | 78 => 113#32
  | 79 => 112#32
  | 80 => 104#32
  | 81 => 103#32
  | 82 => 102#32
  | 83 => 101#32
  | 84 => 100#32
  | 85 => 99#32
  | 86 => 98#32
  | 87 => 97#32
  | 88 => 89#32
  | 89 => 88#32
  | 90 => 87#32
  | 91 => 86#32
  | 92 => 85#32
  | 93 => 84#32
  | 94 => 83#32
  | 95 => 82#32
  | 96 => 74#32
  | 97 => 73#32
  | 98 => 72#32
  | 99 => 71#32
  | 100 => 70#32
  | 101 => 69#32
  | 102 => 68#32
  | 103 => 67#32
  | 104 => 59#32
  | 105 => 58#32
  | 106 => 57#32
  | 107 => 56#32
  | 108 => 55#32
  | 109 => 54#32
  | 110 => 53#32
  | 111 => 52#32
  | 112 => 44#32
  | 113 => 43#32
  | 114 => 42#32
  | 115 => 41#32
  | 116 => 40#32
  | 117 => 39#32
  | 118 => 38#32
  | 119 => 37#32
  | 120 => 29#32
  | 121 => 28#32
  | 122 => 27#32
  | 123 => 26#32
  | 124 => 25#32
  | 125 => 24#32
  | 126 => 23#32
  | 127 => 22#32
  | _ => 0#32

noncomputable abbrev lit0t0_8 (i : Nat) : BitVec 32 := match i % 128 with
  | 0 => 142#32
  | 1 => 141#32
  | 2 => 140#32
  | 3 => 139#32
  | 4 => 138#32
  | 5 => 137#32
  | 6 => 136#32
  | 7 => 135#32
  | 8 => 127#32
  | 9 => 126#32
  | 10 => 125#32
  | 11 => 124#32
  | 12 => 123#32
  | 13 => 122#32
  | 14 => 121#32
  | 15 => 120#32
  | 16 => 112#32
  | 17 => 111#32
  | 18 => 110#32
  | 19 => 109#32
  | 20 => 108#32
  | 21 => 107#32
  | 22 => 106#32
  | 23 => 105#32
  | 24 => 97#32
  | 25 => 96#32
  | 26 => 95#32
  | 27 => 94#32
  | 28 => 93#32
  | 29 => 92#32
  | 30 => 91#32
  | 31 => 90#32
  | 32 => 82#32
  | 33 => 81#32
  | 34 => 80#32
  | 35 => 79#32
  | 36 => 78#32
  | 37 => 77#32
  | 38 => 76#32
  | 39 => 75#32
  | 40 => 67#32
  | 41 => 66#32
  | 42 => 65#32
  | 43 => 64#32
  | 44 => 63#32
  | 45 => 62#32
  | 46 => 61#32
  | 47 => 60#32
  | 48 => 52#32
  | 49 => 51#32
  | 50 => 50#32
  | 51 => 49#32
  | 52 => 48#32
  | 53 => 47#32
  | 54 => 46#32
  | 55 => 45#32
  | 56 => 37#32
  | 57 => 36#32
  | 58 => 35#32
  | 59 => 34#32
  | 60 => 33#32
  | 61 => 32#32
  | 62 => 31#32
  | 63 => 30#32
  | 64 => 143#32
  | 65 => 142#32
  | 66 => 141#32
  | 67 => 140#32
  | 68 => 139#32
  | 69 => 138#32
  | 70 => 137#32
  | 71 => 136#32
  | 72 => 128#32
  | 73 => 127#32
  | 74 => 126#32
  | 75 => 125#32
  | 76 => 124#32
  | 77 => 123#32
  | 78 => 122#32
  | 79 => 121#32
  | 80 => 113#32
  | 81 => 112#32
  | 82 => 111#32
  | 83 => 110#32
  | 84 => 109#32
  | 85 => 108#32
  | 86 => 107#32
  | 87 => 106#32
  | 88 => 98#32
  | 89 => 97#32
  | 90 => 96#32
  | 91 => 95#32
  | 92 => 94#32
  | 93 => 93#32
  | 94 => 92#32
  | 95 => 91#32
  | 96 => 83#32
  | 97 => 82#32
  | 98 => 81#32
  | 99 => 80#32
  | 100 => 79#32
  | 101 => 78#32
  | 102 => 77#32
  | 103 => 76#32
  | 104 => 68#32
  | 105 => 67#32
  | 106 => 66#32
  | 107 => 65#32
  | 108 => 64#32
  | 109 => 63#32
  | 110 => 62#32
  | 111 => 61#32
  | 112 => 53#32
  | 113 => 52#32
  | 114 => 51#32
  | 115 => 50#32
  | 116 => 49#32
  | 117 => 48#32
  | 118 => 47#32
  | 119 => 46#32
  | 120 => 38#32
  | 121 => 37#32
  | 122 => 36#32
  | 123 => 35#32
  | 124 => 34#32
  | 125 => 33#32
  | 126 => 32#32
  | 127 => 31#32
  | _ => 0#32

noncomputable abbrev lit0t0_9 (i : Nat) : BitVec 32 := match i % 128 with
  | 0 => 144#32
  | 1 => 143#32
  | 2 => 142#32
  | 3 => 141#32
  | 4 => 140#32
  | 5 => 139#32
  | 6 => 138#32
  | 7 => 137#32
  | 8 => 129#32
  | 9 => 128#32
  | 10 => 127#32
  | 11 => 126#32
  | 12 => 125#32
  | 13 => 124#32
  | 14 => 123#32
  | 15 => 122#32
  | 16 => 114#32
  | 17 => 113#32
  | 18 => 112#32
  | 19 => 111#32
  | 20 => 110#32
  | 21 => 109#32
  | 22 => 108#32
  | 23 => 107#32
  | 24 => 99#32
  | 25 => 98#32
  | 26 => 97#32
  | 27 => 96#32
  | 28 => 95#32
  | 29 => 94#32
  | 30 => 93#32
  | 31 => 92#32
  | 32 => 84#32
  | 33 => 83#32
  | 34 => 82#32
  | 35 => 81#32
  | 36 => 80#32
  | 37 => 79#32
  | 38 => 78#32
  | 39 => 77#32
  | 40 => 69#32
  | 41 => 68#32
  | 42 => 67#32
  | 43 => 66#32
  | 44 => 65#32
  | 45 => 64#32
  | 46 => 63#32
  | 47 => 62#32
  | 48 => 54#32
  | 49 => 53#32
  | 50 => 52#32
  | 51 => 51#32
  | 52 => 50#32
  | 53 => 49#32
  | 54 => 48#32
  | 55 => 47#32
  | 56 => 39#32
  | 57 => 38#32
  | 58 => 37#32
  | 59 => 36#32
  | 60 => 35#32
  | 61 => 34#32
  | 62 => 33#32
  | 63 => 32#32
  | 64 => 145#32
  | 65 => 144#32
  | 66 => 143#32
  | 67 => 142#32
  | 68 => 141#32
  | 69 => 140#32
  | 70 => 139#32
  | 71 => 138#32
  | 72 => 130#32
  | 73 => 129#32
  | 74 => 128#32
  | 75 => 127#32
  | 76 => 126#32
  | 77 => 125#32
  | 78 => 124#32
  | 79 => 123#32
  | 80 => 115#32
  | 81 => 114#32
  | 82 => 113#32
  | 83 => 112#32
  | 84 => 111#32
  | 85 => 110#32
  | 86 => 109#32
  | 87 => 108#32
  | 88 => 100#32
  | 89 => 99#32
  | 90 => 98#32
  | 91 => 97#32
  | 92 => 96#32
  | 93 => 95#32
  | 94 => 94#32
  | 95 => 93#32
  | 96 => 85#32
  | 97 => 84#32
  | 98 => 83#32
  | 99 => 82#32
  | 100 => 81#32
  | 101 => 80#32
  | 102 => 79#32
  | 103 => 78#32
  | 104 => 70#32
  | 105 => 69#32
  | 106 => 68#32
  | 107 => 67#32
  | 108 => 66#32
  | 109 => 65#32
  | 110 => 64#32
  | 111 => 63#32
  | 112 => 55#32
  | 113 => 54#32
  | 114 => 53#32
  | 115 => 52#32
  | 116 => 51#32
  | 117 => 50#32
  | 118 => 49#32
  | 119 => 48#32
  | 120 => 40#32
  | 121 => 39#32
  | 122 => 38#32
  | 123 => 37#32
  | 124 => 36#32
  | 125 => 35#32
  | 126 => 34#32
  | 127 => 33#32
  | _ => 0#32

noncomputable abbrev lit0t0_10 (i : Nat) : BitVec 32 := match i % 128 with
  | 0 => 146#32
  | 1 => 145#32
  | 2 => 144#32
  | 3 => 143#32
  | 4 => 142#32
  | 5 => 141#32
  | 6 => 140#32
  | 7 => 139#32
  | 8 => 131#32
  | 9 => 130#32
  | 10 => 129#32
  | 11 => 128#32
  | 12 => 127#32
  | 13 => 126#32
  | 14 => 125#32
  | 15 => 124#32
  | 16 => 116#32
  | 17 => 115#32
  | 18 => 114#32
  | 19 => 113#32
  | 20 => 112#32
  | 21 => 111#32
  | 22 => 110#32
  | 23 => 109#32
  | 24 => 101#32
  | 25 => 100#32
  | 26 => 99#32
  | 27 => 98#32
  | 28 => 97#32
  | 29 => 96#32
  | 30 => 95#32
  | 31 => 94#32
  | 32 => 86#32
  | 33 => 85#32
  | 34 => 84#32
  | 35 => 83#32
  | 36 => 82#32
  | 37 => 81#32
  | 38 => 80#32
  | 39 => 79#32
  | 40 => 71#32
  | 41 => 70#32
  | 42 => 69#32
  | 43 => 68#32
  | 44 => 67#32
  | 45 => 66#32
  | 46 => 65#32
  | 47 => 64#32
  | 48 => 56#32
  | 49 => 55#32
  | 50 => 54#32
  | 51 => 53#32
  | 52 => 52#32
  | 53 => 51#32
  | 54 => 50#32
  | 55 => 49#32
  | 56 => 41#32
  | 57 => 40#32
  | 58 => 39#32
  | 59 => 38#32
  | 60 => 37#32
  | 61 => 36#32
  | 62 => 35#32
  | 63 => 34#32
  | 64 => 147#32
  | 65 => 146#32
  | 66 => 145#32
  | 67 => 144#32
  | 68 => 143#32
  | 69 => 142#32
  | 70 => 141#32
  | 71 => 140#32
  | 72 => 132#32
  | 73 => 131#32
  | 74 => 130#32
  | 75 => 129#32
  | 76 => 128#32
  | 77 => 127#32
  | 78 => 126#32
  | 79 => 125#32
  | 80 => 117#32
  | 81 => 116#32
  | 82 => 115#32
  | 83 => 114#32
  | 84 => 113#32
  | 85 => 112#32
  | 86 => 111#32
  | 87 => 110#32
  | 88 => 102#32
  | 89 => 101#32
  | 90 => 100#32
  | 91 => 99#32
  | 92 => 98#32
  | 93 => 97#32
  | 94 => 96#32
  | 95 => 95#32
  | 96 => 87#32
  | 97 => 86#32
  | 98 => 85#32
  | 99 => 84#32
  | 100 => 83#32
  | 101 => 82#32
  | 102 => 81#32
  | 103 => 80#32
  | 104 => 72#32
  | 105 => 71#32
  | 106 => 70#32
  | 107 => 69#32
  | 108 => 68#32
  | 109 => 67#32
  | 110 => 66#32
  | 111 => 65#32
  | 112 => 57#32
  | 113 => 56#32
  | 114 => 55#32
  | 115 => 54#32
  | 116 => 53#32
  | 117 => 52#32
  | 118 => 51#32
  | 119 => 50#32
  | 120 => 42#32
  | 121 => 41#32
  | 122 => 40#32
  | 123 => 39#32
  | 124 => 38#32
  | 125 => 37#32
  | 126 => 36#32
  | 127 => 35#32
  | _ => 0#32

noncomputable abbrev lit0t0_11 (i : Nat) : BitVec 32 := match i % 128 with
  | 0 => 148#32
  | 1 => 147#32
  | 2 => 146#32
  | 3 => 145#32
  | 4 => 144#32
  | 5 => 143#32
  | 6 => 142#32
  | 7 => 141#32
  | 8 => 133#32
  | 9 => 132#32
  | 10 => 131#32
  | 11 => 130#32
  | 12 => 129#32
  | 13 => 128#32
  | 14 => 127#32
  | 15 => 126#32
  | 16 => 118#32
  | 17 => 117#32
  | 18 => 116#32
  | 19 => 115#32
  | 20 => 114#32
  | 21 => 113#32
  | 22 => 112#32
  | 23 => 111#32
  | 24 => 103#32
  | 25 => 102#32
  | 26 => 101#32
  | 27 => 100#32
  | 28 => 99#32
  | 29 => 98#32
  | 30 => 97#32
  | 31 => 96#32
  | 32 => 88#32
  | 33 => 87#32
  | 34 => 86#32
  | 35 => 85#32
  | 36 => 84#32
  | 37 => 83#32
  | 38 => 82#32
  | 39 => 81#32
  | 40 => 73#32
  | 41 => 72#32
  | 42 => 71#32
  | 43 => 70#32
  | 44 => 69#32
  | 45 => 68#32
  | 46 => 67#32
  | 47 => 66#32
  | 48 => 58#32
  | 49 => 57#32
  | 50 => 56#32
  | 51 => 55#32
  | 52 => 54#32
  | 53 => 53#32
  | 54 => 52#32
  | 55 => 51#32
  | 56 => 43#32
  | 57 => 42#32
  | 58 => 41#32
  | 59 => 40#32
  | 60 => 39#32
  | 61 => 38#32
  | 62 => 37#32
  | 63 => 36#32
  | 64 => 149#32
  | 65 => 148#32
  | 66 => 147#32
  | 67 => 146#32
  | 68 => 145#32
  | 69 => 144#32
  | 70 => 143#32
  | 71 => 142#32
  | 72 => 134#32
  | 73 => 133#32
  | 74 => 132#32
  | 75 => 131#32
  | 76 => 130#32
  | 77 => 129#32
  | 78 => 128#32
  | 79 => 127#32
  | 80 => 119#32
  | 81 => 118#32
  | 82 => 117#32
  | 83 => 116#32
  | 84 => 115#32
  | 85 => 114#32
  | 86 => 113#32
  | 87 => 112#32
  | 88 => 104#32
  | 89 => 103#32
  | 90 => 102#32
  | 91 => 101#32
  | 92 => 100#32
  | 93 => 99#32
  | 94 => 98#32
  | 95 => 97#32
  | 96 => 89#32
  | 97 => 88#32
  | 98 => 87#32
  | 99 => 86#32
  | 100 => 85#32
  | 101 => 84#32
  | 102 => 83#32
  | 103 => 82#32
  | 104 => 74#32
  | 105 => 73#32
  | 106 => 72#32
  | 107 => 71#32
  | 108 => 70#32
  | 109 => 69#32
  | 110 => 68#32
  | 111 => 67#32
  | 112 => 59#32
  | 113 => 58#32
  | 114 => 57#32
  | 115 => 56#32
  | 116 => 55#32
  | 117 => 54#32
  | 118 => 53#32
  | 119 => 52#32
  | 120 => 44#32
  | 121 => 43#32
  | 122 => 42#32
  | 123 => 41#32
  | 124 => 40#32
  | 125 => 39#32
  | 126 => 38#32
  | 127 => 37#32
  | _ => 0#32

noncomputable abbrev lit0t0_12 (i : Nat) : BitVec 32 := match i % 128 with
  | 0 => 157#32
  | 1 => 156#32
  | 2 => 155#32
  | 3 => 154#32
  | 4 => 153#32
  | 5 => 152#32
  | 6 => 151#32
  | 7 => 150#32
  | 8 => 142#32
  | 9 => 141#32
  | 10 => 140#32
  | 11 => 139#32
  | 12 => 138#32
  | 13 => 137#32
  | 14 => 136#32
  | 15 => 135#32
  | 16 => 127#32
  | 17 => 126#32
  | 18 => 125#32
  | 19 => 124#32
  | 20 => 123#32
  | 21 => 122#32
  | 22 => 121#32
  | 23 => 120#32
  | 24 => 112#32
  | 25 => 111#32
  | 26 => 110#32
  | 27 => 109#32
  | 28 => 108#32
  | 29 => 107#32
  | 30 => 106#32
  | 31 => 105#32
  | 32 => 97#32
  | 33 => 96#32
  | 34 => 95#32
  | 35 => 94#32
  | 36 => 93#32
  | 37 => 92#32
  | 38 => 91#32
  | 39 => 90#32
  | 40 => 82#32
  | 41 => 81#32
  | 42 => 80#32
  | 43 => 79#32
  | 44 => 78#32
  | 45 => 77#32
  | 46 => 76#32
  | 47 => 75#32
  | 48 => 67#32
  | 49 => 66#32
  | 50 => 65#32
  | 51 => 64#32
  | 52 => 63#32
  | 53 => 62#32
  | 54 => 61#32
  | 55 => 60#32
  | 56 => 52#32
  | 57 => 51#32
  | 58 => 50#32
  | 59 => 49#32
  | 60 => 48#32
  | 61 => 47#32
  | 62 => 46#32
  | 63 => 45#32
  | 64 => 158#32
  | 65 => 157#32
  | 66 => 156#32
  | 67 => 155#32
  | 68 => 154#32
  | 69 => 153#32
  | 70 => 152#32
  | 71 => 151#32
  | 72 => 143#32
  | 73 => 142#32
  | 74 => 141#32
  | 75 => 140#32
  | 76 => 139#32
  | 77 => 138#32
  | 78 => 137#32
  | 79 => 136#32
  | 80 => 128#32
  | 81 => 127#32
  | 82 => 126#32
  | 83 => 125#32
  | 84 => 124#32
  | 85 => 123#32
  | 86 => 122#32
  | 87 => 121#32
  | 88 => 113#32
  | 89 => 112#32
  | 90 => 111#32
  | 91 => 110#32
  | 92 => 109#32
  | 93 => 108#32
  | 94 => 107#32
  | 95 => 106#32
  | 96 => 98#32
  | 97 => 97#32
  | 98 => 96#32
  | 99 => 95#32
  | 100 => 94#32
  | 101 => 93#32
  | 102 => 92#32
  | 103 => 91#32
  | 104 => 83#32
  | 105 => 82#32
  | 106 => 81#32
  | 107 => 80#32
  | 108 => 79#32
  | 109 => 78#32
  | 110 => 77#32
  | 111 => 76#32
  | 112 => 68#32
  | 113 => 67#32
  | 114 => 66#32
  | 115 => 65#32
  | 116 => 64#32
  | 117 => 63#32
  | 118 => 62#32
  | 119 => 61#32
  | 120 => 53#32
  | 121 => 52#32
  | 122 => 51#32
  | 123 => 50#32
  | 124 => 49#32
  | 125 => 48#32
  | 126 => 47#32
  | 127 => 46#32
  | _ => 0#32

noncomputable abbrev lit0t0_13 (i : Nat) : BitVec 32 := match i % 128 with
  | 0 => 159#32
  | 1 => 158#32
  | 2 => 157#32
  | 3 => 156#32
  | 4 => 155#32
  | 5 => 154#32
  | 6 => 153#32
  | 7 => 152#32
  | 8 => 144#32
  | 9 => 143#32
  | 10 => 142#32
  | 11 => 141#32
  | 12 => 140#32
  | 13 => 139#32
  | 14 => 138#32
  | 15 => 137#32
  | 16 => 129#32
  | 17 => 128#32
  | 18 => 127#32
  | 19 => 126#32
  | 20 => 125#32
  | 21 => 124#32
  | 22 => 123#32
  | 23 => 122#32
  | 24 => 114#32
  | 25 => 113#32
  | 26 => 112#32
  | 27 => 111#32
  | 28 => 110#32
  | 29 => 109#32
  | 30 => 108#32
  | 31 => 107#32
  | 32 => 99#32
  | 33 => 98#32
  | 34 => 97#32
  | 35 => 96#32
  | 36 => 95#32
  | 37 => 94#32
  | 38 => 93#32
  | 39 => 92#32
  | 40 => 84#32
  | 41 => 83#32
  | 42 => 82#32
  | 43 => 81#32
  | 44 => 80#32
  | 45 => 79#32
  | 46 => 78#32
  | 47 => 77#32
  | 48 => 69#32
  | 49 => 68#32
  | 50 => 67#32
  | 51 => 66#32
  | 52 => 65#32
  | 53 => 64#32
  | 54 => 63#32
  | 55 => 62#32
  | 56 => 54#32
  | 57 => 53#32
  | 58 => 52#32
  | 59 => 51#32
  | 60 => 50#32
  | 61 => 49#32
  | 62 => 48#32
  | 63 => 47#32
  | 64 => 160#32
  | 65 => 159#32
  | 66 => 158#32
  | 67 => 157#32
  | 68 => 156#32
  | 69 => 155#32
  | 70 => 154#32
  | 71 => 153#32
  | 72 => 145#32
  | 73 => 144#32
  | 74 => 143#32
  | 75 => 142#32
  | 76 => 141#32
  | 77 => 140#32
  | 78 => 139#32
  | 79 => 138#32
  | 80 => 130#32
  | 81 => 129#32
  | 82 => 128#32
  | 83 => 127#32
  | 84 => 126#32
  | 85 => 125#32
  | 86 => 124#32
  | 87 => 123#32
  | 88 => 115#32
  | 89 => 114#32
  | 90 => 113#32
  | 91 => 112#32
  | 92 => 111#32
  | 93 => 110#32
  | 94 => 109#32
  | 95 => 108#32
  | 96 => 100#32
  | 97 => 99#32
  | 98 => 98#32
  | 99 => 97#32
  | 100 => 96#32
  | 101 => 95#32
  | 102 => 94#32
  | 103 => 93#32
  | 104 => 85#32
  | 105 => 84#32
  | 106 => 83#32
  | 107 => 82#32
  | 108 => 81#32
  | 109 => 80#32
  | 110 => 79#32
  | 111 => 78#32
  | 112 => 70#32
  | 113 => 69#32
  | 114 => 68#32
  | 115 => 67#32
  | 116 => 66#32
  | 117 => 65#32
  | 118 => 64#32
  | 119 => 63#32
  | 120 => 55#32
  | 121 => 54#32
  | 122 => 53#32
  | 123 => 52#32
  | 124 => 51#32
  | 125 => 50#32
  | 126 => 49#32
  | 127 => 48#32
  | _ => 0#32

noncomputable abbrev lit0t0_14 (i : Nat) : BitVec 32 := match i % 128 with
  | 0 => 161#32
  | 1 => 160#32
  | 2 => 159#32
  | 3 => 158#32
  | 4 => 157#32
  | 5 => 156#32
  | 6 => 155#32
  | 7 => 154#32
  | 8 => 146#32
  | 9 => 145#32
  | 10 => 144#32
  | 11 => 143#32
  | 12 => 142#32
  | 13 => 141#32
  | 14 => 140#32
  | 15 => 139#32
  | 16 => 131#32
  | 17 => 130#32
  | 18 => 129#32
  | 19 => 128#32
  | 20 => 127#32
  | 21 => 126#32
  | 22 => 125#32
  | 23 => 124#32
  | 24 => 116#32
  | 25 => 115#32
  | 26 => 114#32
  | 27 => 113#32
  | 28 => 112#32
  | 29 => 111#32
  | 30 => 110#32
  | 31 => 109#32
  | 32 => 101#32
  | 33 => 100#32
  | 34 => 99#32
  | 35 => 98#32
  | 36 => 97#32
  | 37 => 96#32
  | 38 => 95#32
  | 39 => 94#32
  | 40 => 86#32
  | 41 => 85#32
  | 42 => 84#32
  | 43 => 83#32
  | 44 => 82#32
  | 45 => 81#32
  | 46 => 80#32
  | 47 => 79#32
  | 48 => 71#32
  | 49 => 70#32
  | 50 => 69#32
  | 51 => 68#32
  | 52 => 67#32
  | 53 => 66#32
  | 54 => 65#32
  | 55 => 64#32
  | 56 => 56#32
  | 57 => 55#32
  | 58 => 54#32
  | 59 => 53#32
  | 60 => 52#32
  | 61 => 51#32
  | 62 => 50#32
  | 63 => 49#32
  | 64 => 162#32
  | 65 => 161#32
  | 66 => 160#32
  | 67 => 159#32
  | 68 => 158#32
  | 69 => 157#32
  | 70 => 156#32
  | 71 => 155#32
  | 72 => 147#32
  | 73 => 146#32
  | 74 => 145#32
  | 75 => 144#32
  | 76 => 143#32
  | 77 => 142#32
  | 78 => 141#32
  | 79 => 140#32
  | 80 => 132#32
  | 81 => 131#32
  | 82 => 130#32
  | 83 => 129#32
  | 84 => 128#32
  | 85 => 127#32
  | 86 => 126#32
  | 87 => 125#32
  | 88 => 117#32
  | 89 => 116#32
  | 90 => 115#32
  | 91 => 114#32
  | 92 => 113#32
  | 93 => 112#32
  | 94 => 111#32
  | 95 => 110#32
  | 96 => 102#32
  | 97 => 101#32
  | 98 => 100#32
  | 99 => 99#32
  | 100 => 98#32
  | 101 => 97#32
  | 102 => 96#32
  | 103 => 95#32
  | 104 => 87#32
  | 105 => 86#32
  | 106 => 85#32
  | 107 => 84#32
  | 108 => 83#32
  | 109 => 82#32
  | 110 => 81#32
  | 111 => 80#32
  | 112 => 72#32
  | 113 => 71#32
  | 114 => 70#32
  | 115 => 69#32
  | 116 => 68#32
  | 117 => 67#32
  | 118 => 66#32
  | 119 => 65#32
  | 120 => 57#32
  | 121 => 56#32
  | 122 => 55#32
  | 123 => 54#32
  | 124 => 53#32
  | 125 => 52#32
  | 126 => 51#32
  | 127 => 50#32
  | _ => 0#32

noncomputable abbrev lit0t0_15 (i : Nat) : BitVec 32 := match i % 128 with
  | 0 => 163#32
  | 1 => 162#32
  | 2 => 161#32
  | 3 => 160#32
  | 4 => 159#32
  | 5 => 158#32
  | 6 => 157#32
  | 7 => 156#32
  | 8 => 148#32
  | 9 => 147#32
  | 10 => 146#32
  | 11 => 145#32
  | 12 => 144#32
  | 13 => 143#32
  | 14 => 142#32
  | 15 => 141#32
  | 16 => 133#32
  | 17 => 132#32
  | 18 => 131#32
  | 19 => 130#32
  | 20 => 129#32
  | 21 => 128#32
  | 22 => 127#32
  | 23 => 126#32
  | 24 => 118#32
  | 25 => 117#32
  | 26 => 116#32
  | 27 => 115#32
  | 28 => 114#32
  | 29 => 113#32
  | 30 => 112#32
  | 31 => 111#32
  | 32 => 103#32
  | 33 => 102#32
  | 34 => 101#32
  | 35 => 100#32
  | 36 => 99#32
  | 37 => 98#32
  | 38 => 97#32
  | 39 => 96#32
  | 40 => 88#32
  | 41 => 87#32
  | 42 => 86#32
  | 43 => 85#32
  | 44 => 84#32
  | 45 => 83#32
  | 46 => 82#32
  | 47 => 81#32
  | 48 => 73#32
  | 49 => 72#32
  | 50 => 71#32
  | 51 => 70#32
  | 52 => 69#32
  | 53 => 68#32
  | 54 => 67#32
  | 55 => 66#32
  | 56 => 58#32
  | 57 => 57#32
  | 58 => 56#32
  | 59 => 55#32
  | 60 => 54#32
  | 61 => 53#32
  | 62 => 52#32
  | 63 => 51#32
  | 64 => 164#32
  | 65 => 163#32
  | 66 => 162#32
  | 67 => 161#32
  | 68 => 160#32
  | 69 => 159#32
  | 70 => 158#32
  | 71 => 157#32
  | 72 => 149#32
  | 73 => 148#32
  | 74 => 147#32
  | 75 => 146#32
  | 76 => 145#32
  | 77 => 144#32
  | 78 => 143#32
  | 79 => 142#32
  | 80 => 134#32
  | 81 => 133#32
  | 82 => 132#32
  | 83 => 131#32
  | 84 => 130#32
  | 85 => 129#32
  | 86 => 128#32
  | 87 => 127#32
  | 88 => 119#32
  | 89 => 118#32
  | 90 => 117#32
  | 91 => 116#32
  | 92 => 115#32
  | 93 => 114#32
  | 94 => 113#32
  | 95 => 112#32
  | 96 => 104#32
  | 97 => 103#32
  | 98 => 102#32
  | 99 => 101#32
  | 100 => 100#32
  | 101 => 99#32
  | 102 => 98#32
  | 103 => 97#32
  | 104 => 89#32
  | 105 => 88#32
  | 106 => 87#32
  | 107 => 86#32
  | 108 => 85#32
  | 109 => 84#32
  | 110 => 83#32
  | 111 => 82#32
  | 112 => 74#32
  | 113 => 73#32
  | 114 => 72#32
  | 115 => 71#32
  | 116 => 70#32
  | 117 => 69#32
  | 118 => 68#32
  | 119 => 67#32
  | 120 => 59#32
  | 121 => 58#32
  | 122 => 57#32
  | 123 => 56#32
  | 124 => 55#32
  | 125 => 54#32
  | 126 => 53#32
  | 127 => 52#32
  | _ => 0#32

noncomputable abbrev lit0t0_16 (i : Nat) : BitVec 32 := match i % 128 with
  | 0 => 172#32
  | 1 => 171#32
  | 2 => 170#32
  | 3 => 169#32
  | 4 => 168#32
  | 5 => 167#32
  | 6 => 166#32
  | 7 => 165#32
  | 8 => 157#32
  | 9 => 156#32
  | 10 => 155#32
  | 11 => 154#32
  | 12 => 153#32
  | 13 => 152#32
  | 14 => 151#32
  | 15 => 150#32
  | 16 => 142#32
  | 17 => 141#32
  | 18 => 140#32
  | 19 => 139#32
  | 20 => 138#32
  | 21 => 137#32
  | 22 => 136#32
  | 23 => 135#32
  | 24 => 127#32
  | 25 => 126#32
  | 26 => 125#32
  | 27 => 124#32
  | 28 => 123#32
  | 29 => 122#32
  | 30 => 121#32
  | 31 => 120#32
  | 32 => 112#32
  | 33 => 111#32
  | 34 => 110#32
  | 35 => 109#32
  | 36 => 108#32
  | 37 => 107#32
  | 38 => 106#32
  | 39 => 105#32
  | 40 => 97#32
  | 41 => 96#32
  | 42 => 95#32
  | 43 => 94#32
  | 44 => 93#32
  | 45 => 92#32
  | 46 => 91#32
  | 47 => 90#32
  | 48 => 82#32
  | 49 => 81#32
  | 50 => 80#32
  | 51 => 79#32
  | 52 => 78#32
  | 53 => 77#32
  | 54 => 76#32
  | 55 => 75#32
  | 56 => 67#32
  | 57 => 66#32
  | 58 => 65#32
  | 59 => 64#32
  | 60 => 63#32
  | 61 => 62#32
  | 62 => 61#32
  | 63 => 60#32
  | 64 => 173#32
  | 65 => 172#32
  | 66 => 171#32
  | 67 => 170#32
  | 68 => 169#32
  | 69 => 168#32
  | 70 => 167#32
  | 71 => 166#32
  | 72 => 158#32
  | 73 => 157#32
  | 74 => 156#32
  | 75 => 155#32
  | 76 => 154#32
  | 77 => 153#32
  | 78 => 152#32
  | 79 => 151#32
  | 80 => 143#32
  | 81 => 142#32
  | 82 => 141#32
  | 83 => 140#32
  | 84 => 139#32
  | 85 => 138#32
  | 86 => 137#32
  | 87 => 136#32
  | 88 => 128#32
  | 89 => 127#32
  | 90 => 126#32
  | 91 => 125#32
  | 92 => 124#32
  | 93 => 123#32
  | 94 => 122#32
  | 95 => 121#32
  | 96 => 113#32
  | 97 => 112#32
  | 98 => 111#32
  | 99 => 110#32
  | 100 => 109#32
  | 101 => 108#32
  | 102 => 107#32
  | 103 => 106#32
  | 104 => 98#32
  | 105 => 97#32
  | 106 => 96#32
  | 107 => 95#32
  | 108 => 94#32
  | 109 => 93#32
  | 110 => 92#32
  | 111 => 91#32
  | 112 => 83#32
  | 113 => 82#32
  | 114 => 81#32
  | 115 => 80#32
  | 116 => 79#32
  | 117 => 78#32
  | 118 => 77#32
  | 119 => 76#32
  | 120 => 68#32
  | 121 => 67#32
  | 122 => 66#32
  | 123 => 65#32
  | 124 => 64#32
  | 125 => 63#32
  | 126 => 62#32
  | 127 => 61#32
  | _ => 0#32

noncomputable abbrev lit0t0_17 (i : Nat) : BitVec 32 := match i % 128 with
  | 0 => 174#32
  | 1 => 173#32
  | 2 => 172#32
  | 3 => 171#32
  | 4 => 170#32
  | 5 => 169#32
  | 6 => 168#32
  | 7 => 167#32
  | 8 => 159#32
  | 9 => 158#32
  | 10 => 157#32
  | 11 => 156#32
  | 12 => 155#32
  | 13 => 154#32
  | 14 => 153#32
  | 15 => 152#32
  | 16 => 144#32
  | 17 => 143#32
  | 18 => 142#32
  | 19 => 141#32
  | 20 => 140#32
  | 21 => 139#32
  | 22 => 138#32
  | 23 => 137#32
  | 24 => 129#32
  | 25 => 128#32
  | 26 => 127#32
  | 27 => 126#32
  | 28 => 125#32
  | 29 => 124#32
  | 30 => 123#32
  | 31 => 122#32
  | 32 => 114#32
  | 33 => 113#32
  | 34 => 112#32
  | 35 => 111#32
  | 36 => 110#32
  | 37 => 109#32
  | 38 => 108#32
  | 39 => 107#32
  | 40 => 99#32
  | 41 => 98#32
  | 42 => 97#32
  | 43 => 96#32
  | 44 => 95#32
  | 45 => 94#32
  | 46 => 93#32
  | 47 => 92#32
  | 48 => 84#32
  | 49 => 83#32
  | 50 => 82#32
  | 51 => 81#32
  | 52 => 80#32
  | 53 => 79#32
  | 54 => 78#32
  | 55 => 77#32
  | 56 => 69#32
  | 57 => 68#32
  | 58 => 67#32
  | 59 => 66#32
  | 60 => 65#32
  | 61 => 64#32
  | 62 => 63#32
  | 63 => 62#32
  | 64 => 175#32
  | 65 => 174#32
  | 66 => 173#32
  | 67 => 172#32
  | 68 => 171#32
  | 69 => 170#32
  | 70 => 169#32
  | 71 => 168#32
  | 72 => 160#32
  | 73 => 159#32
  | 74 => 158#32
  | 75 => 157#32
  | 76 => 156#32
  | 77 => 155#32
  | 78 => 154#32
  | 79 => 153#32
  | 80 => 145#32
  | 81 => 144#32
  | 82 => 143#32
  | 83 => 142#32
  | 84 => 141#32
  | 85 => 140#32
  | 86 => 139#32
  | 87 => 138#32
  | 88 => 130#32
  | 89 => 129#32
  | 90 => 128#32
  | 91 => 127#32
  | 92 => 126#32
  | 93 => 125#32
  | 94 => 124#32
  | 95 => 123#32
  | 96 => 115#32
  | 97 => 114#32
  | 98 => 113#32
  | 99 => 112#32
  | 100 => 111#32
  | 101 => 110#32
  | 102 => 109#32
  | 103 => 108#32
  | 104 => 100#32
  | 105 => 99#32
  | 106 => 98#32
  | 107 => 97#32
  | 108 => 96#32
  | 109 => 95#32
  | 110 => 94#32
  | 111 => 93#32
  | 112 => 85#32
  | 113 => 84#32
  | 114 => 83#32
  | 115 => 82#32
  | 116 => 81#32
  | 117 => 80#32
  | 118 => 79#32
  | 119 => 78#32
  | 120 => 70#32
  | 121 => 69#32
  | 122 => 68#32
  | 123 => 67#32
  | 124 => 66#32
  | 125 => 65#32
  | 126 => 64#32
  | 127 => 63#32
  | _ => 0#32

noncomputable abbrev lit0t0_18 (i : Nat) : BitVec 32 := match i % 128 with
  | 0 => 176#32
  | 1 => 175#32
  | 2 => 174#32
  | 3 => 173#32
  | 4 => 172#32
  | 5 => 171#32
  | 6 => 170#32
  | 7 => 169#32
  | 8 => 161#32
  | 9 => 160#32
  | 10 => 159#32
  | 11 => 158#32
  | 12 => 157#32
  | 13 => 156#32
  | 14 => 155#32
  | 15 => 154#32
  | 16 => 146#32
  | 17 => 145#32
  | 18 => 144#32
  | 19 => 143#32
  | 20 => 142#32
  | 21 => 141#32
  | 22 => 140#32
  | 23 => 139#32
  | 24 => 131#32
  | 25 => 130#32
  | 26 => 129#32
  | 27 => 128#32
  | 28 => 127#32
  | 29 => 126#32
  | 30 => 125#32
  | 31 => 124#32
  | 32 => 116#32
  | 33 => 115#32
  | 34 => 114#32
  | 35 => 113#32
  | 36 => 112#32
  | 37 => 111#32
  | 38 => 110#32
  | 39 => 109#32
  | 40 => 101#32
  | 41 => 100#32
  | 42 => 99#32
  | 43 => 98#32
  | 44 => 97#32
  | 45 => 96#32
  | 46 => 95#32
  | 47 => 94#32
  | 48 => 86#32
  | 49 => 85#32
  | 50 => 84#32
  | 51 => 83#32
  | 52 => 82#32
  | 53 => 81#32
  | 54 => 80#32
  | 55 => 79#32
  | 56 => 71#32
  | 57 => 70#32
  | 58 => 69#32
  | 59 => 68#32
  | 60 => 67#32
  | 61 => 66#32
  | 62 => 65#32
  | 63 => 64#32
  | 64 => 177#32
  | 65 => 176#32
  | 66 => 175#32
  | 67 => 174#32
  | 68 => 173#32
  | 69 => 172#32
  | 70 => 171#32
  | 71 => 170#32
  | 72 => 162#32
  | 73 => 161#32
  | 74 => 160#32
  | 75 => 159#32
  | 76 => 158#32
  | 77 => 157#32
  | 78 => 156#32
  | 79 => 155#32
  | 80 => 147#32
  | 81 => 146#32
  | 82 => 145#32
  | 83 => 144#32
  | 84 => 143#32
  | 85 => 142#32
  | 86 => 141#32
  | 87 => 140#32
  | 88 => 132#32
  | 89 => 131#32
  | 90 => 130#32
  | 91 => 129#32
  | 92 => 128#32
  | 93 => 127#32
  | 94 => 126#32
  | 95 => 125#32
  | 96 => 117#32
  | 97 => 116#32
  | 98 => 115#32
  | 99 => 114#32
  | 100 => 113#32
  | 101 => 112#32
  | 102 => 111#32
  | 103 => 110#32
  | 104 => 102#32
  | 105 => 101#32
  | 106 => 100#32
  | 107 => 99#32
  | 108 => 98#32
  | 109 => 97#32
  | 110 => 96#32
  | 111 => 95#32
  | 112 => 87#32
  | 113 => 86#32
  | 114 => 85#32
  | 115 => 84#32
  | 116 => 83#32
  | 117 => 82#32
  | 118 => 81#32
  | 119 => 80#32
  | 120 => 72#32
  | 121 => 71#32
  | 122 => 70#32
  | 123 => 69#32
  | 124 => 68#32
  | 125 => 67#32
  | 126 => 66#32
  | 127 => 65#32
  | _ => 0#32

noncomputable abbrev lit0t0_19 (i : Nat) : BitVec 32 := match i % 128 with
  | 0 => 178#32
  | 1 => 177#32
  | 2 => 176#32
  | 3 => 175#32
  | 4 => 174#32
  | 5 => 173#32
  | 6 => 172#32
  | 7 => 171#32
  | 8 => 163#32
  | 9 => 162#32
  | 10 => 161#32
  | 11 => 160#32
  | 12 => 159#32
  | 13 => 158#32
  | 14 => 157#32
  | 15 => 156#32
  | 16 => 148#32
  | 17 => 147#32
  | 18 => 146#32
  | 19 => 145#32
  | 20 => 144#32
  | 21 => 143#32
  | 22 => 142#32
  | 23 => 141#32
  | 24 => 133#32
  | 25 => 132#32
  | 26 => 131#32
  | 27 => 130#32
  | 28 => 129#32
  | 29 => 128#32
  | 30 => 127#32
  | 31 => 126#32
  | 32 => 118#32
  | 33 => 117#32
  | 34 => 116#32
  | 35 => 115#32
  | 36 => 114#32
  | 37 => 113#32
  | 38 => 112#32
  | 39 => 111#32
  | 40 => 103#32
  | 41 => 102#32
  | 42 => 101#32
  | 43 => 100#32
  | 44 => 99#32
  | 45 => 98#32
  | 46 => 97#32
  | 47 => 96#32
  | 48 => 88#32
  | 49 => 87#32
  | 50 => 86#32
  | 51 => 85#32
  | 52 => 84#32
  | 53 => 83#32
  | 54 => 82#32
  | 55 => 81#32
  | 56 => 73#32
  | 57 => 72#32
  | 58 => 71#32
  | 59 => 70#32
  | 60 => 69#32
  | 61 => 68#32
  | 62 => 67#32
  | 63 => 66#32
  | 64 => 179#32
  | 65 => 178#32
  | 66 => 177#32
  | 67 => 176#32
  | 68 => 175#32
  | 69 => 174#32
  | 70 => 173#32
  | 71 => 172#32
  | 72 => 164#32
  | 73 => 163#32
  | 74 => 162#32
  | 75 => 161#32
  | 76 => 160#32
  | 77 => 159#32
  | 78 => 158#32
  | 79 => 157#32
  | 80 => 149#32
  | 81 => 148#32
  | 82 => 147#32
  | 83 => 146#32
  | 84 => 145#32
  | 85 => 144#32
  | 86 => 143#32
  | 87 => 142#32
  | 88 => 134#32
  | 89 => 133#32
  | 90 => 132#32
  | 91 => 131#32
  | 92 => 130#32
  | 93 => 129#32
  | 94 => 128#32
  | 95 => 127#32
  | 96 => 119#32
  | 97 => 118#32
  | 98 => 117#32
  | 99 => 116#32
  | 100 => 115#32
  | 101 => 114#32
  | 102 => 113#32
  | 103 => 112#32
  | 104 => 104#32
  | 105 => 103#32
  | 106 => 102#32
  | 107 => 101#32
  | 108 => 100#32
  | 109 => 99#32
  | 110 => 98#32
  | 111 => 97#32
  | 112 => 89#32
  | 113 => 88#32
  | 114 => 87#32
  | 115 => 86#32
  | 116 => 85#32
  | 117 => 84#32
  | 118 => 83#32
  | 119 => 82#32
  | 120 => 74#32
  | 121 => 73#32
  | 122 => 72#32
  | 123 => 71#32
  | 124 => 70#32
  | 125 => 69#32
  | 126 => 68#32
  | 127 => 67#32
  | _ => 0#32

noncomputable abbrev lit0t0_20 (i : Nat) : BitVec 32 := match i % 128 with
  | 0 => 187#32
  | 1 => 186#32
  | 2 => 185#32
  | 3 => 184#32
  | 4 => 183#32
  | 5 => 182#32
  | 6 => 181#32
  | 7 => 180#32
  | 8 => 172#32
  | 9 => 171#32
  | 10 => 170#32
  | 11 => 169#32
  | 12 => 168#32
  | 13 => 167#32
  | 14 => 166#32
  | 15 => 165#32
  | 16 => 157#32
  | 17 => 156#32
  | 18 => 155#32
  | 19 => 154#32
  | 20 => 153#32
  | 21 => 152#32
  | 22 => 151#32
  | 23 => 150#32
  | 24 => 142#32
  | 25 => 141#32
  | 26 => 140#32
  | 27 => 139#32
  | 28 => 138#32
  | 29 => 137#32
  | 30 => 136#32
  | 31 => 135#32
  | 32 => 127#32
  | 33 => 126#32
  | 34 => 125#32
  | 35 => 124#32
  | 36 => 123#32
  | 37 => 122#32
  | 38 => 121#32
  | 39 => 120#32
  | 40 => 112#32
  | 41 => 111#32
  | 42 => 110#32
  | 43 => 109#32
  | 44 => 108#32
  | 45 => 107#32
  | 46 => 106#32
  | 47 => 105#32
  | 48 => 97#32
  | 49 => 96#32
  | 50 => 95#32
  | 51 => 94#32
  | 52 => 93#32
  | 53 => 92#32
  | 54 => 91#32
  | 55 => 90#32
  | 56 => 82#32
  | 57 => 81#32
  | 58 => 80#32
  | 59 => 79#32
  | 60 => 78#32
  | 61 => 77#32
  | 62 => 76#32
  | 63 => 75#32
  | 64 => 188#32
  | 65 => 187#32
  | 66 => 186#32
  | 67 => 185#32
  | 68 => 184#32
  | 69 => 183#32
  | 70 => 182#32
  | 71 => 181#32
  | 72 => 173#32
  | 73 => 172#32
  | 74 => 171#32
  | 75 => 170#32
  | 76 => 169#32
  | 77 => 168#32
  | 78 => 167#32
  | 79 => 166#32
  | 80 => 158#32
  | 81 => 157#32
  | 82 => 156#32
  | 83 => 155#32
  | 84 => 154#32
  | 85 => 153#32
  | 86 => 152#32
  | 87 => 151#32
  | 88 => 143#32
  | 89 => 142#32
  | 90 => 141#32
  | 91 => 140#32
  | 92 => 139#32
  | 93 => 138#32
  | 94 => 137#32
  | 95 => 136#32
  | 96 => 128#32
  | 97 => 127#32
  | 98 => 126#32
  | 99 => 125#32
  | 100 => 124#32
  | 101 => 123#32
  | 102 => 122#32
  | 103 => 121#32
  | 104 => 113#32
  | 105 => 112#32
  | 106 => 111#32
  | 107 => 110#32
  | 108 => 109#32
  | 109 => 108#32
  | 110 => 107#32
  | 111 => 106#32
  | 112 => 98#32
  | 113 => 97#32
  | 114 => 96#32
  | 115 => 95#32
  | 116 => 94#32
  | 117 => 93#32
  | 118 => 92#32
  | 119 => 91#32
  | 120 => 83#32
  | 121 => 82#32
  | 122 => 81#32
  | 123 => 80#32
  | 124 => 79#32
  | 125 => 78#32
  | 126 => 77#32
  | 127 => 76#32
  | _ => 0#32

noncomputable abbrev lit0t0_21 (i : Nat) : BitVec 32 := match i % 128 with
  | 0 => 189#32
  | 1 => 188#32
  | 2 => 187#32
  | 3 => 186#32
  | 4 => 185#32
  | 5 => 184#32
  | 6 => 183#32
  | 7 => 182#32
  | 8 => 174#32
  | 9 => 173#32
  | 10 => 172#32
  | 11 => 171#32
  | 12 => 170#32
  | 13 => 169#32
  | 14 => 168#32
  | 15 => 167#32
  | 16 => 159#32
  | 17 => 158#32
  | 18 => 157#32
  | 19 => 156#32
  | 20 => 155#32
  | 21 => 154#32
  | 22 => 153#32
  | 23 => 152#32
  | 24 => 144#32
  | 25 => 143#32
  | 26 => 142#32
  | 27 => 141#32
  | 28 => 140#32
  | 29 => 139#32
  | 30 => 138#32
  | 31 => 137#32
  | 32 => 129#32
  | 33 => 128#32
  | 34 => 127#32
  | 35 => 126#32
  | 36 => 125#32
  | 37 => 124#32
  | 38 => 123#32
  | 39 => 122#32
  | 40 => 114#32
  | 41 => 113#32
  | 42 => 112#32
  | 43 => 111#32
  | 44 => 110#32
  | 45 => 109#32
  | 46 => 108#32
  | 47 => 107#32
  | 48 => 99#32
  | 49 => 98#32
  | 50 => 97#32
  | 51 => 96#32
  | 52 => 95#32
  | 53 => 94#32
  | 54 => 93#32
  | 55 => 92#32
  | 56 => 84#32
  | 57 => 83#32
  | 58 => 82#32
  | 59 => 81#32
  | 60 => 80#32
  | 61 => 79#32
  | 62 => 78#32
  | 63 => 77#32
  | 64 => 190#32
  | 65 => 189#32
  | 66 => 188#32
  | 67 => 187#32
  | 68 => 186#32
  | 69 => 185#32
  | 70 => 184#32
  | 71 => 183#32
  | 72 => 175#32
  | 73 => 174#32
  | 74 => 173#32
  | 75 => 172#32
  | 76 => 171#32
  | 77 => 170#32
  | 78 => 169#32
  | 79 => 168#32
  | 80 => 160#32
  | 81 => 159#32
  | 82 => 158#32
  | 83 => 157#32
  | 84 => 156#32
  | 85 => 155#32
  | 86 => 154#32
  | 87 => 153#32
  | 88 => 145#32
  | 89 => 144#32
  | 90 => 143#32
  | 91 => 142#32
  | 92 => 141#32
  | 93 => 140#32
  | 94 => 139#32
  | 95 => 138#32
  | 96 => 130#32
  | 97 => 129#32
  | 98 => 128#32
  | 99 => 127#32
  | 100 => 126#32
  | 101 => 125#32
  | 102 => 124#32
  | 103 => 123#32
  | 104 => 115#32
  | 105 => 114#32
  | 106 => 113#32
  | 107 => 112#32
  | 108 => 111#32
  | 109 => 110#32
  | 110 => 109#32
  | 111 => 108#32
  | 112 => 100#32
  | 113 => 99#32
  | 114 => 98#32
  | 115 => 97#32
  | 116 => 96#32
  | 117 => 95#32
  | 118 => 94#32
  | 119 => 93#32
  | 120 => 85#32
  | 121 => 84#32
  | 122 => 83#32
  | 123 => 82#32
  | 124 => 81#32
  | 125 => 80#32
  | 126 => 79#32
  | 127 => 78#32
  | _ => 0#32

noncomputable abbrev lit0t0_22 (i : Nat) : BitVec 32 := match i % 128 with
  | 0 => 191#32
  | 1 => 190#32
  | 2 => 189#32
  | 3 => 188#32
  | 4 => 187#32
  | 5 => 186#32
  | 6 => 185#32
  | 7 => 184#32
  | 8 => 176#32
  | 9 => 175#32
  | 10 => 174#32
  | 11 => 173#32
  | 12 => 172#32
  | 13 => 171#32
  | 14 => 170#32
  | 15 => 169#32
  | 16 => 161#32
  | 17 => 160#32
  | 18 => 159#32
  | 19 => 158#32
  | 20 => 157#32
  | 21 => 156#32
  | 22 => 155#32
  | 23 => 154#32
  | 24 => 146#32
  | 25 => 145#32
  | 26 => 144#32
  | 27 => 143#32
  | 28 => 142#32
  | 29 => 141#32
  | 30 => 140#32
  | 31 => 139#32
  | 32 => 131#32
  | 33 => 130#32
  | 34 => 129#32
  | 35 => 128#32
  | 36 => 127#32
  | 37 => 126#32
  | 38 => 125#32
  | 39 => 124#32
  | 40 => 116#32
  | 41 => 115#32
  | 42 => 114#32
  | 43 => 113#32
  | 44 => 112#32
  | 45 => 111#32
  | 46 => 110#32
  | 47 => 109#32
  | 48 => 101#32
  | 49 => 100#32
  | 50 => 99#32
  | 51 => 98#32
  | 52 => 97#32
  | 53 => 96#32
  | 54 => 95#32
  | 55 => 94#32
  | 56 => 86#32
  | 57 => 85#32
  | 58 => 84#32
  | 59 => 83#32
  | 60 => 82#32
  | 61 => 81#32
  | 62 => 80#32
  | 63 => 79#32
  | 64 => 192#32
  | 65 => 191#32
  | 66 => 190#32
  | 67 => 189#32
  | 68 => 188#32
  | 69 => 187#32
  | 70 => 186#32
  | 71 => 185#32
  | 72 => 177#32
  | 73 => 176#32
  | 74 => 175#32
  | 75 => 174#32
  | 76 => 173#32
  | 77 => 172#32
  | 78 => 171#32
  | 79 => 170#32
  | 80 => 162#32
  | 81 => 161#32
  | 82 => 160#32
  | 83 => 159#32
  | 84 => 158#32
  | 85 => 157#32
  | 86 => 156#32
  | 87 => 155#32
  | 88 => 147#32
  | 89 => 146#32
  | 90 => 145#32
  | 91 => 144#32
  | 92 => 143#32
  | 93 => 142#32
  | 94 => 141#32
  | 95 => 140#32
  | 96 => 132#32
  | 97 => 131#32
  | 98 => 130#32
  | 99 => 129#32
  | 100 => 128#32
  | 101 => 127#32
  | 102 => 126#32
  | 103 => 125#32
  | 104 => 117#32
  | 105 => 116#32
  | 106 => 115#32
  | 107 => 114#32
  | 108 => 113#32
  | 109 => 112#32
  | 110 => 111#32
  | 111 => 110#32
  | 112 => 102#32
  | 113 => 101#32
  | 114 => 100#32
  | 115 => 99#32
  | 116 => 98#32
  | 117 => 97#32
  | 118 => 96#32
  | 119 => 95#32
  | 120 => 87#32
  | 121 => 86#32
  | 122 => 85#32
  | 123 => 84#32
  | 124 => 83#32
  | 125 => 82#32
  | 126 => 81#32
  | 127 => 80#32
  | _ => 0#32

noncomputable abbrev lit0t0_23 (i : Nat) : BitVec 32 := match i % 128 with
  | 0 => 193#32
  | 1 => 192#32
  | 2 => 191#32
  | 3 => 190#32
  | 4 => 189#32
  | 5 => 188#32
  | 6 => 187#32
  | 7 => 186#32
  | 8 => 178#32
  | 9 => 177#32
  | 10 => 176#32
  | 11 => 175#32
  | 12 => 174#32
  | 13 => 173#32
  | 14 => 172#32
  | 15 => 171#32
  | 16 => 163#32
  | 17 => 162#32
  | 18 => 161#32
  | 19 => 160#32
  | 20 => 159#32
  | 21 => 158#32
  | 22 => 157#32
  | 23 => 156#32
  | 24 => 148#32
  | 25 => 147#32
  | 26 => 146#32
  | 27 => 145#32
  | 28 => 144#32
  | 29 => 143#32
  | 30 => 142#32
  | 31 => 141#32
  | 32 => 133#32
  | 33 => 132#32
  | 34 => 131#32
  | 35 => 130#32
  | 36 => 129#32
  | 37 => 128#32
  | 38 => 127#32
  | 39 => 126#32
  | 40 => 118#32
  | 41 => 117#32
  | 42 => 116#32
  | 43 => 115#32
  | 44 => 114#32
  | 45 => 113#32
  | 46 => 112#32
  | 47 => 111#32
  | 48 => 103#32
  | 49 => 102#32
  | 50 => 101#32
  | 51 => 100#32
  | 52 => 99#32
  | 53 => 98#32
  | 54 => 97#32
  | 55 => 96#32
  | 56 => 88#32
  | 57 => 87#32
  | 58 => 86#32
  | 59 => 85#32
  | 60 => 84#32
  | 61 => 83#32
  | 62 => 82#32
  | 63 => 81#32
  | 64 => 194#32
  | 65 => 193#32
  | 66 => 192#32
  | 67 => 191#32
  | 68 => 190#32
  | 69 => 189#32
  | 70 => 188#32
  | 71 => 187#32
  | 72 => 179#32
  | 73 => 178#32
  | 74 => 177#32
  | 75 => 176#32
  | 76 => 175#32
  | 77 => 174#32
  | 78 => 173#32
  | 79 => 172#32
  | 80 => 164#32
  | 81 => 163#32
  | 82 => 162#32
  | 83 => 161#32
  | 84 => 160#32
  | 85 => 159#32
  | 86 => 158#32
  | 87 => 157#32
  | 88 => 149#32
  | 89 => 148#32
  | 90 => 147#32
  | 91 => 146#32
  | 92 => 145#32
  | 93 => 144#32
  | 94 => 143#32
  | 95 => 142#32
  | 96 => 134#32
  | 97 => 133#32
  | 98 => 132#32
  | 99 => 131#32
  | 100 => 130#32
  | 101 => 129#32
  | 102 => 128#32
  | 103 => 127#32
  | 104 => 119#32
  | 105 => 118#32
  | 106 => 117#32
  | 107 => 116#32
  | 108 => 115#32
  | 109 => 114#32
  | 110 => 113#32
  | 111 => 112#32
  | 112 => 104#32
  | 113 => 103#32
  | 114 => 102#32
  | 115 => 101#32
  | 116 => 100#32
  | 117 => 99#32
  | 118 => 98#32
  | 119 => 97#32
  | 120 => 89#32
  | 121 => 88#32
  | 122 => 87#32
  | 123 => 86#32
  | 124 => 85#32
  | 125 => 84#32
  | 126 => 83#32
  | 127 => 82#32
  | _ => 0#32

noncomputable abbrev lit0t0_24 (i : Nat) : BitVec 32 := match i % 128 with
  | 0 => 202#32
  | 1 => 201#32
  | 2 => 200#32
  | 3 => 199#32
  | 4 => 198#32
  | 5 => 197#32
  | 6 => 196#32
  | 7 => 195#32
  | 8 => 187#32
  | 9 => 186#32
  | 10 => 185#32
  | 11 => 184#32
  | 12 => 183#32
  | 13 => 182#32
  | 14 => 181#32
  | 15 => 180#32
  | 16 => 172#32
  | 17 => 171#32
  | 18 => 170#32
  | 19 => 169#32
  | 20 => 168#32
  | 21 => 167#32
  | 22 => 166#32
  | 23 => 165#32
  | 24 => 157#32
  | 25 => 156#32
  | 26 => 155#32
  | 27 => 154#32
  | 28 => 153#32
  | 29 => 152#32
  | 30 => 151#32
  | 31 => 150#32
  | 32 => 142#32
  | 33 => 141#32
  | 34 => 140#32
  | 35 => 139#32
  | 36 => 138#32
  | 37 => 137#32
  | 38 => 136#32
  | 39 => 135#32
  | 40 => 127#32
  | 41 => 126#32
  | 42 => 125#32
  | 43 => 124#32
  | 44 => 123#32
  | 45 => 122#32
  | 46 => 121#32
  | 47 => 120#32
  | 48 => 112#32
  | 49 => 111#32
  | 50 => 110#32
  | 51 => 109#32
  | 52 => 108#32
  | 53 => 107#32
  | 54 => 106#32
  | 55 => 105#32
  | 56 => 97#32
  | 57 => 96#32
  | 58 => 95#32
  | 59 => 94#32
  | 60 => 93#32
  | 61 => 92#32
  | 62 => 91#32
  | 63 => 90#32
  | 64 => 203#32
  | 65 => 202#32
  | 66 => 201#32
  | 67 => 200#32
  | 68 => 199#32
  | 69 => 198#32
  | 70 => 197#32
  | 71 => 196#32
  | 72 => 188#32
  | 73 => 187#32
  | 74 => 186#32
  | 75 => 185#32
  | 76 => 184#32
  | 77 => 183#32
  | 78 => 182#32
  | 79 => 181#32
  | 80 => 173#32
  | 81 => 172#32
  | 82 => 171#32
  | 83 => 170#32
  | 84 => 169#32
  | 85 => 168#32
  | 86 => 167#32
  | 87 => 166#32
  | 88 => 158#32
  | 89 => 157#32
  | 90 => 156#32
  | 91 => 155#32
  | 92 => 154#32
  | 93 => 153#32
  | 94 => 152#32
  | 95 => 151#32
  | 96 => 143#32
  | 97 => 142#32
  | 98 => 141#32
  | 99 => 140#32
  | 100 => 139#32
  | 101 => 138#32
  | 102 => 137#32
  | 103 => 136#32
  | 104 => 128#32
  | 105 => 127#32
  | 106 => 126#32
  | 107 => 125#32
  | 108 => 124#32
  | 109 => 123#32
  | 110 => 122#32
  | 111 => 121#32
  | 112 => 113#32
  | 113 => 112#32
  | 114 => 111#32
  | 115 => 110#32
  | 116 => 109#32
  | 117 => 108#32
  | 118 => 107#32
  | 119 => 106#32
  | 120 => 98#32
  | 121 => 97#32
  | 122 => 96#32
  | 123 => 95#32
  | 124 => 94#32
  | 125 => 93#32
  | 126 => 92#32
  | 127 => 91#32
  | _ => 0#32

noncomputable abbrev lit0t0_25 (i : Nat) : BitVec 32 := match i % 128 with
  | 0 => 204#32
  | 1 => 203#32
  | 2 => 202#32
  | 3 => 201#32
  | 4 => 200#32
  | 5 => 199#32
  | 6 => 198#32
  | 7 => 197#32
  | 8 => 189#32
  | 9 => 188#32
  | 10 => 187#32
  | 11 => 186#32
  | 12 => 185#32
  | 13 => 184#32
  | 14 => 183#32
  | 15 => 182#32
  | 16 => 174#32
  | 17 => 173#32
  | 18 => 172#32
  | 19 => 171#32
  | 20 => 170#32
  | 21 => 169#32
  | 22 => 168#32
  | 23 => 167#32
  | 24 => 159#32
  | 25 => 158#32
  | 26 => 157#32
  | 27 => 156#32
  | 28 => 155#32
  | 29 => 154#32
  | 30 => 153#32
  | 31 => 152#32
  | 32 => 144#32
  | 33 => 143#32
  | 34 => 142#32
  | 35 => 141#32
  | 36 => 140#32
  | 37 => 139#32
  | 38 => 138#32
  | 39 => 137#32
  | 40 => 129#32
  | 41 => 128#32
  | 42 => 127#32
  | 43 => 126#32
  | 44 => 125#32
  | 45 => 124#32
  | 46 => 123#32
  | 47 => 122#32
  | 48 => 114#32
  | 49 => 113#32
  | 50 => 112#32
  | 51 => 111#32
  | 52 => 110#32
  | 53 => 109#32
  | 54 => 108#32
  | 55 => 107#32
  | 56 => 99#32
  | 57 => 98#32
  | 58 => 97#32
  | 59 => 96#32
  | 60 => 95#32
  | 61 => 94#32
  | 62 => 93#32
  | 63 => 92#32
  | 64 => 205#32
  | 65 => 204#32
  | 66 => 203#32
  | 67 => 202#32
  | 68 => 201#32
  | 69 => 200#32
  | 70 => 199#32
  | 71 => 198#32
  | 72 => 190#32
  | 73 => 189#32
  | 74 => 188#32
  | 75 => 187#32
  | 76 => 186#32
  | 77 => 185#32
  | 78 => 184#32
  | 79 => 183#32
  | 80 => 175#32
  | 81 => 174#32
  | 82 => 173#32
  | 83 => 172#32
  | 84 => 171#32
  | 85 => 170#32
  | 86 => 169#32
  | 87 => 168#32
  | 88 => 160#32
  | 89 => 159#32
  | 90 => 158#32
  | 91 => 157#32
  | 92 => 156#32
  | 93 => 155#32
  | 94 => 154#32
  | 95 => 153#32
  | 96 => 145#32
  | 97 => 144#32
  | 98 => 143#32
  | 99 => 142#32
  | 100 => 141#32
  | 101 => 140#32
  | 102 => 139#32
  | 103 => 138#32
  | 104 => 130#32
  | 105 => 129#32
  | 106 => 128#32
  | 107 => 127#32
  | 108 => 126#32
  | 109 => 125#32
  | 110 => 124#32
  | 111 => 123#32
  | 112 => 115#32
  | 113 => 114#32
  | 114 => 113#32
  | 115 => 112#32
  | 116 => 111#32
  | 117 => 110#32
  | 118 => 109#32
  | 119 => 108#32
  | 120 => 100#32
  | 121 => 99#32
  | 122 => 98#32
  | 123 => 97#32
  | 124 => 96#32
  | 125 => 95#32
  | 126 => 94#32
  | 127 => 93#32
  | _ => 0#32

noncomputable abbrev lit0t0_26 (i : Nat) : BitVec 32 := match i % 128 with
  | 0 => 206#32
  | 1 => 205#32
  | 2 => 204#32
  | 3 => 203#32
  | 4 => 202#32
  | 5 => 201#32
  | 6 => 200#32
  | 7 => 199#32
  | 8 => 191#32
  | 9 => 190#32
  | 10 => 189#32
  | 11 => 188#32
  | 12 => 187#32
  | 13 => 186#32
  | 14 => 185#32
  | 15 => 184#32
  | 16 => 176#32
  | 17 => 175#32
  | 18 => 174#32
  | 19 => 173#32
  | 20 => 172#32
  | 21 => 171#32
  | 22 => 170#32
  | 23 => 169#32
  | 24 => 161#32
  | 25 => 160#32
  | 26 => 159#32
  | 27 => 158#32
  | 28 => 157#32
  | 29 => 156#32
  | 30 => 155#32
  | 31 => 154#32
  | 32 => 146#32
  | 33 => 145#32
  | 34 => 144#32
  | 35 => 143#32
  | 36 => 142#32
  | 37 => 141#32
  | 38 => 140#32
  | 39 => 139#32
  | 40 => 131#32
  | 41 => 130#32
  | 42 => 129#32
  | 43 => 128#32
  | 44 => 127#32
  | 45 => 126#32
  | 46 => 125#32
  | 47 => 124#32
  | 48 => 116#32
  | 49 => 115#32
  | 50 => 114#32
  | 51 => 113#32
  | 52 => 112#32
  | 53 => 111#32
  | 54 => 110#32
  | 55 => 109#32
  | 56 => 101#32
  | 57 => 100#32
  | 58 => 99#32
  | 59 => 98#32
  | 60 => 97#32
  | 61 => 96#32
  | 62 => 95#32
  | 63 => 94#32
  | 64 => 207#32
  | 65 => 206#32
  | 66 => 205#32
  | 67 => 204#32
  | 68 => 203#32
  | 69 => 202#32
  | 70 => 201#32
  | 71 => 200#32
  | 72 => 192#32
  | 73 => 191#32
  | 74 => 190#32
  | 75 => 189#32
  | 76 => 188#32
  | 77 => 187#32
  | 78 => 186#32
  | 79 => 185#32
  | 80 => 177#32
  | 81 => 176#32
  | 82 => 175#32
  | 83 => 174#32
  | 84 => 173#32
  | 85 => 172#32
  | 86 => 171#32
  | 87 => 170#32
  | 88 => 162#32
  | 89 => 161#32
  | 90 => 160#32
  | 91 => 159#32
  | 92 => 158#32
  | 93 => 157#32
  | 94 => 156#32
  | 95 => 155#32
  | 96 => 147#32
  | 97 => 146#32
  | 98 => 145#32
  | 99 => 144#32
  | 100 => 143#32
  | 101 => 142#32
  | 102 => 141#32
  | 103 => 140#32
  | 104 => 132#32
  | 105 => 131#32
  | 106 => 130#32
  | 107 => 129#32
  | 108 => 128#32
  | 109 => 127#32
  | 110 => 126#32
  | 111 => 125#32
  | 112 => 117#32
  | 113 => 116#32
  | 114 => 115#32
  | 115 => 114#32
  | 116 => 113#32
  | 117 => 112#32
  | 118 => 111#32
  | 119 => 110#32
  | 120 => 102#32
  | 121 => 101#32
  | 122 => 100#32
  | 123 => 99#32
  | 124 => 98#32
  | 125 => 97#32
  | 126 => 96#32
  | 127 => 95#32
  | _ => 0#32

noncomputable abbrev lit0t0_27 (i : Nat) : BitVec 32 := match i % 128 with
  | 0 => 208#32
  | 1 => 207#32
  | 2 => 206#32
  | 3 => 205#32
  | 4 => 204#32
  | 5 => 203#32
  | 6 => 202#32
  | 7 => 201#32
  | 8 => 193#32
  | 9 => 192#32
  | 10 => 191#32
  | 11 => 190#32
  | 12 => 189#32
  | 13 => 188#32
  | 14 => 187#32
  | 15 => 186#32
  | 16 => 178#32
  | 17 => 177#32
  | 18 => 176#32
  | 19 => 175#32
  | 20 => 174#32
  | 21 => 173#32
  | 22 => 172#32
  | 23 => 171#32
  | 24 => 163#32
  | 25 => 162#32
  | 26 => 161#32
  | 27 => 160#32
  | 28 => 159#32
  | 29 => 158#32
  | 30 => 157#32
  | 31 => 156#32
  | 32 => 148#32
  | 33 => 147#32
  | 34 => 146#32
  | 35 => 145#32
  | 36 => 144#32
  | 37 => 143#32
  | 38 => 142#32
  | 39 => 141#32
  | 40 => 133#32
  | 41 => 132#32
  | 42 => 131#32
  | 43 => 130#32
  | 44 => 129#32
  | 45 => 128#32
  | 46 => 127#32
  | 47 => 126#32
  | 48 => 118#32
  | 49 => 117#32
  | 50 => 116#32
  | 51 => 115#32
  | 52 => 114#32
  | 53 => 113#32
  | 54 => 112#32
  | 55 => 111#32
  | 56 => 103#32
  | 57 => 102#32
  | 58 => 101#32
  | 59 => 100#32
  | 60 => 99#32
  | 61 => 98#32
  | 62 => 97#32
  | 63 => 96#32
  | 64 => 209#32
  | 65 => 208#32
  | 66 => 207#32
  | 67 => 206#32
  | 68 => 205#32
  | 69 => 204#32
  | 70 => 203#32
  | 71 => 202#32
  | 72 => 194#32
  | 73 => 193#32
  | 74 => 192#32
  | 75 => 191#32
  | 76 => 190#32
  | 77 => 189#32
  | 78 => 188#32
  | 79 => 187#32
  | 80 => 179#32
  | 81 => 178#32
  | 82 => 177#32
  | 83 => 176#32
  | 84 => 175#32
  | 85 => 174#32
  | 86 => 173#32
  | 87 => 172#32
  | 88 => 164#32
  | 89 => 163#32
  | 90 => 162#32
  | 91 => 161#32
  | 92 => 160#32
  | 93 => 159#32
  | 94 => 158#32
  | 95 => 157#32
  | 96 => 149#32
  | 97 => 148#32
  | 98 => 147#32
  | 99 => 146#32
  | 100 => 145#32
  | 101 => 144#32
  | 102 => 143#32
  | 103 => 142#32
  | 104 => 134#32
  | 105 => 133#32
  | 106 => 132#32
  | 107 => 131#32
  | 108 => 130#32
  | 109 => 129#32
  | 110 => 128#32
  | 111 => 127#32
  | 112 => 119#32
  | 113 => 118#32
  | 114 => 117#32
  | 115 => 116#32
  | 116 => 115#32
  | 117 => 114#32
  | 118 => 113#32
  | 119 => 112#32
  | 120 => 104#32
  | 121 => 103#32
  | 122 => 102#32
  | 123 => 101#32
  | 124 => 100#32
  | 125 => 99#32
  | 126 => 98#32
  | 127 => 97#32
  | _ => 0#32

noncomputable abbrev lit0t0_28 (i : Nat) : BitVec 32 := match i % 128 with
  | 0 => 217#32
  | 1 => 216#32
  | 2 => 215#32
  | 3 => 214#32
  | 4 => 213#32
  | 5 => 212#32
  | 6 => 211#32
  | 7 => 210#32
  | 8 => 202#32
  | 9 => 201#32
  | 10 => 200#32
  | 11 => 199#32
  | 12 => 198#32
  | 13 => 197#32
  | 14 => 196#32
  | 15 => 195#32
  | 16 => 187#32
  | 17 => 186#32
  | 18 => 185#32
  | 19 => 184#32
  | 20 => 183#32
  | 21 => 182#32
  | 22 => 181#32
  | 23 => 180#32
  | 24 => 172#32
  | 25 => 171#32
  | 26 => 170#32
  | 27 => 169#32
  | 28 => 168#32
  | 29 => 167#32
  | 30 => 166#32
  | 31 => 165#32
  | 32 => 157#32
  | 33 => 156#32
  | 34 => 155#32
  | 35 => 154#32
  | 36 => 153#32
  | 37 => 152#32
  | 38 => 151#32
  | 39 => 150#32
  | 40 => 142#32
  | 41 => 141#32
  | 42 => 140#32
  | 43 => 139#32
  | 44 => 138#32
  | 45 => 137#32
  | 46 => 136#32
  | 47 => 135#32
  | 48 => 127#32
  | 49 => 126#32
  | 50 => 125#32
  | 51 => 124#32
  | 52 => 123#32
  | 53 => 122#32
  | 54 => 121#32
  | 55 => 120#32
  | 56 => 112#32
  | 57 => 111#32
  | 58 => 110#32
  | 59 => 109#32
  | 60 => 108#32
  | 61 => 107#32
  | 62 => 106#32
  | 63 => 105#32
  | 64 => 218#32
  | 65 => 217#32
  | 66 => 216#32
  | 67 => 215#32
  | 68 => 214#32
  | 69 => 213#32
  | 70 => 212#32
  | 71 => 211#32
  | 72 => 203#32
  | 73 => 202#32
  | 74 => 201#32
  | 75 => 200#32
  | 76 => 199#32
  | 77 => 198#32
  | 78 => 197#32
  | 79 => 196#32
  | 80 => 188#32
  | 81 => 187#32
  | 82 => 186#32
  | 83 => 185#32
  | 84 => 184#32
  | 85 => 183#32
  | 86 => 182#32
  | 87 => 181#32
  | 88 => 173#32
  | 89 => 172#32
  | 90 => 171#32
  | 91 => 170#32
  | 92 => 169#32
  | 93 => 168#32
  | 94 => 167#32
  | 95 => 166#32
  | 96 => 158#32
  | 97 => 157#32
  | 98 => 156#32
  | 99 => 155#32
  | 100 => 154#32
  | 101 => 153#32
  | 102 => 152#32
  | 103 => 151#32
  | 104 => 143#32
  | 105 => 142#32
  | 106 => 141#32
  | 107 => 140#32
  | 108 => 139#32
  | 109 => 138#32
  | 110 => 137#32
  | 111 => 136#32
  | 112 => 128#32
  | 113 => 127#32
  | 114 => 126#32
  | 115 => 125#32
  | 116 => 124#32
  | 117 => 123#32
  | 118 => 122#32
  | 119 => 121#32
  | 120 => 113#32
  | 121 => 112#32
  | 122 => 111#32
  | 123 => 110#32
  | 124 => 109#32
  | 125 => 108#32
  | 126 => 107#32
  | 127 => 106#32
  | _ => 0#32

noncomputable abbrev lit0t0_29 (i : Nat) : BitVec 32 := match i % 128 with
  | 0 => 219#32
  | 1 => 218#32
  | 2 => 217#32
  | 3 => 216#32
  | 4 => 215#32
  | 5 => 214#32
  | 6 => 213#32
  | 7 => 212#32
  | 8 => 204#32
  | 9 => 203#32
  | 10 => 202#32
  | 11 => 201#32
  | 12 => 200#32
  | 13 => 199#32
  | 14 => 198#32
  | 15 => 197#32
  | 16 => 189#32
  | 17 => 188#32
  | 18 => 187#32
  | 19 => 186#32
  | 20 => 185#32
  | 21 => 184#32
  | 22 => 183#32
  | 23 => 182#32
  | 24 => 174#32
  | 25 => 173#32
  | 26 => 172#32
  | 27 => 171#32
  | 28 => 170#32
  | 29 => 169#32
  | 30 => 168#32
  | 31 => 167#32
  | 32 => 159#32
  | 33 => 158#32
  | 34 => 157#32
  | 35 => 156#32
  | 36 => 155#32
  | 37 => 154#32
  | 38 => 153#32
  | 39 => 152#32
  | 40 => 144#32
  | 41 => 143#32
  | 42 => 142#32
  | 43 => 141#32
  | 44 => 140#32
  | 45 => 139#32
  | 46 => 138#32
  | 47 => 137#32
  | 48 => 129#32
  | 49 => 128#32
  | 50 => 127#32
  | 51 => 126#32
  | 52 => 125#32
  | 53 => 124#32
  | 54 => 123#32
  | 55 => 122#32
  | 56 => 114#32
  | 57 => 113#32
  | 58 => 112#32
  | 59 => 111#32
  | 60 => 110#32
  | 61 => 109#32
  | 62 => 108#32
  | 63 => 107#32
  | 64 => 220#32
  | 65 => 219#32
  | 66 => 218#32
  | 67 => 217#32
  | 68 => 216#32
  | 69 => 215#32
  | 70 => 214#32
  | 71 => 213#32
  | 72 => 205#32
  | 73 => 204#32
  | 74 => 203#32
  | 75 => 202#32
  | 76 => 201#32
  | 77 => 200#32
  | 78 => 199#32
  | 79 => 198#32
  | 80 => 190#32
  | 81 => 189#32
  | 82 => 188#32
  | 83 => 187#32
  | 84 => 186#32
  | 85 => 185#32
  | 86 => 184#32
  | 87 => 183#32
  | 88 => 175#32
  | 89 => 174#32
  | 90 => 173#32
  | 91 => 172#32
  | 92 => 171#32
  | 93 => 170#32
  | 94 => 169#32
  | 95 => 168#32
  | 96 => 160#32
  | 97 => 159#32
  | 98 => 158#32
  | 99 => 157#32
  | 100 => 156#32
  | 101 => 155#32
  | 102 => 154#32
  | 103 => 153#32
  | 104 => 145#32
  | 105 => 144#32
  | 106 => 143#32
  | 107 => 142#32
  | 108 => 141#32
  | 109 => 140#32
  | 110 => 139#32
  | 111 => 138#32
  | 112 => 130#32
  | 113 => 129#32
  | 114 => 128#32
  | 115 => 127#32
  | 116 => 126#32
  | 117 => 125#32
  | 118 => 124#32
  | 119 => 123#32
  | 120 => 115#32
  | 121 => 114#32
  | 122 => 113#32
  | 123 => 112#32
  | 124 => 111#32
  | 125 => 110#32
  | 126 => 109#32
  | 127 => 108#32
  | _ => 0#32

noncomputable abbrev lit0t0_30 (i : Nat) : BitVec 32 := match i % 128 with
  | 0 => 221#32
  | 1 => 220#32
  | 2 => 219#32
  | 3 => 218#32
  | 4 => 217#32
  | 5 => 216#32
  | 6 => 215#32
  | 7 => 214#32
  | 8 => 206#32
  | 9 => 205#32
  | 10 => 204#32
  | 11 => 203#32
  | 12 => 202#32
  | 13 => 201#32
  | 14 => 200#32
  | 15 => 199#32
  | 16 => 191#32
  | 17 => 190#32
  | 18 => 189#32
  | 19 => 188#32
  | 20 => 187#32
  | 21 => 186#32
  | 22 => 185#32
  | 23 => 184#32
  | 24 => 176#32
  | 25 => 175#32
  | 26 => 174#32
  | 27 => 173#32
  | 28 => 172#32
  | 29 => 171#32
  | 30 => 170#32
  | 31 => 169#32
  | 32 => 161#32
  | 33 => 160#32
  | 34 => 159#32
  | 35 => 158#32
  | 36 => 157#32
  | 37 => 156#32
  | 38 => 155#32
  | 39 => 154#32
  | 40 => 146#32
  | 41 => 145#32
  | 42 => 144#32
  | 43 => 143#32
  | 44 => 142#32
  | 45 => 141#32
  | 46 => 140#32
  | 47 => 139#32
  | 48 => 131#32
  | 49 => 130#32
  | 50 => 129#32
  | 51 => 128#32
  | 52 => 127#32
  | 53 => 126#32
  | 54 => 125#32
  | 55 => 124#32
  | 56 => 116#32
  | 57 => 115#32
  | 58 => 114#32
  | 59 => 113#32
  | 60 => 112#32
  | 61 => 111#32
  | 62 => 110#32
  | 63 => 109#32
  | 64 => 222#32
  | 65 => 221#32
  | 66 => 220#32
  | 67 => 219#32
  | 68 => 218#32
  | 69 => 217#32
  | 70 => 216#32
  | 71 => 215#32
  | 72 => 207#32
  | 73 => 206#32
  | 74 => 205#32
  | 75 => 204#32
  | 76 => 203#32
  | 77 => 202#32
  | 78 => 201#32
  | 79 => 200#32
  | 80 => 192#32
  | 81 => 191#32
  | 82 => 190#32
  | 83 => 189#32
  | 84 => 188#32
  | 85 => 187#32
  | 86 => 186#32
  | 87 => 185#32
  | 88 => 177#32
  | 89 => 176#32
  | 90 => 175#32
  | 91 => 174#32
  | 92 => 173#32
  | 93 => 172#32
  | 94 => 171#32
  | 95 => 170#32
  | 96 => 162#32
  | 97 => 161#32
  | 98 => 160#32
  | 99 => 159#32
  | 100 => 158#32
  | 101 => 157#32
  | 102 => 156#32
  | 103 => 155#32
  | 104 => 147#32
  | 105 => 146#32
  | 106 => 145#32
  | 107 => 144#32
  | 108 => 143#32
  | 109 => 142#32
  | 110 => 141#32
  | 111 => 140#32
  | 112 => 132#32
  | 113 => 131#32
  | 114 => 130#32
  | 115 => 129#32
  | 116 => 128#32
  | 117 => 127#32
  | 118 => 126#32
  | 119 => 125#32
  | 120 => 117#32
  | 121 => 116#32
  | 122 => 115#32
  | 123 => 114#32
  | 124 => 113#32
  | 125 => 112#32
  | 126 => 111#32
  | 127 => 110#32
  | _ => 0#32

noncomputable abbrev lit0t0_31 (i : Nat) : BitVec 32 := match i % 128 with
  | 0 => 223#32
  | 1 => 222#32
  | 2 => 221#32
  | 3 => 220#32
  | 4 => 219#32
  | 5 => 218#32
  | 6 => 217#32
  | 7 => 216#32
  | 8 => 208#32
  | 9 => 207#32
  | 10 => 206#32
  | 11 => 205#32
  | 12 => 204#32
  | 13 => 203#32
  | 14 => 202#32
  | 15 => 201#32
  | 16 => 193#32
  | 17 => 192#32
  | 18 => 191#32
  | 19 => 190#32
  | 20 => 189#32
  | 21 => 188#32
  | 22 => 187#32
  | 23 => 186#32
  | 24 => 178#32
  | 25 => 177#32
  | 26 => 176#32
  | 27 => 175#32
  | 28 => 174#32
  | 29 => 173#32
  | 30 => 172#32
  | 31 => 171#32
  | 32 => 163#32
  | 33 => 162#32
  | 34 => 161#32
  | 35 => 160#32
  | 36 => 159#32
  | 37 => 158#32
  | 38 => 157#32
  | 39 => 156#32
  | 40 => 148#32
  | 41 => 147#32
  | 42 => 146#32
  | 43 => 145#32
  | 44 => 144#32
  | 45 => 143#32
  | 46 => 142#32
  | 47 => 141#32
  | 48 => 133#32
  | 49 => 132#32
  | 50 => 131#32
  | 51 => 130#32
  | 52 => 129#32
  | 53 => 128#32
  | 54 => 127#32
  | 55 => 126#32
  | 56 => 118#32
  | 57 => 117#32
  | 58 => 116#32
  | 59 => 115#32
  | 60 => 114#32
  | 61 => 113#32
  | 62 => 112#32
  | 63 => 111#32
  | 64 => 224#32
  | 65 => 223#32
  | 66 => 222#32
  | 67 => 221#32
  | 68 => 220#32
  | 69 => 219#32
  | 70 => 218#32
  | 71 => 217#32
  | 72 => 209#32
  | 73 => 208#32
  | 74 => 207#32
  | 75 => 206#32
  | 76 => 205#32
  | 77 => 204#32
  | 78 => 203#32
  | 79 => 202#32
  | 80 => 194#32
  | 81 => 193#32
  | 82 => 192#32
  | 83 => 191#32
  | 84 => 190#32
  | 85 => 189#32
  | 86 => 188#32
  | 87 => 187#32
  | 88 => 179#32
  | 89 => 178#32
  | 90 => 177#32
  | 91 => 176#32
  | 92 => 175#32
  | 93 => 174#32
  | 94 => 173#32
  | 95 => 172#32
  | 96 => 164#32
  | 97 => 163#32
  | 98 => 162#32
  | 99 => 161#32
  | 100 => 160#32
  | 101 => 159#32
  | 102 => 158#32
  | 103 => 157#32
  | 104 => 149#32
  | 105 => 148#32
  | 106 => 147#32
  | 107 => 146#32
  | 108 => 145#32
  | 109 => 144#32
  | 110 => 143#32
  | 111 => 142#32
  | 112 => 134#32
  | 113 => 133#32
  | 114 => 132#32
  | 115 => 131#32
  | 116 => 130#32
  | 117 => 129#32
  | 118 => 128#32
  | 119 => 127#32
  | 120 => 119#32
  | 121 => 118#32
  | 122 => 117#32
  | 123 => 116#32
  | 124 => 115#32
  | 125 => 114#32
  | 126 => 113#32
  | 127 => 112#32
  | _ => 0#32

noncomputable abbrev lit0t (i : Nat) : BitVec 32 := match i / 128 with
  | 0 => lit0t0_0 i
  | 1 => lit0t0_1 i
  | 2 => lit0t0_2 i
  | 3 => lit0t0_3 i
  | 4 => lit0t0_4 i
  | 5 => lit0t0_5 i
  | 6 => lit0t0_6 i
  | 7 => lit0t0_7 i
  | 8 => lit0t0_8 i
  | 9 => lit0t0_9 i
  | 10 => lit0t0_10 i
  | 11 => lit0t0_11 i
  | 12 => lit0t0_12 i
  | 13 => lit0t0_13 i
  | 14 => lit0t0_14 i
  | 15 => lit0t0_15 i
  | 16 => lit0t0_16 i
  | 17 => lit0t0_17 i
  | 18 => lit0t0_18 i
  | 19 => lit0t0_19 i
  | 20 => lit0t0_20 i
  | 21 => lit0t0_21 i
  | 22 => lit0t0_22 i
  | 23 => lit0t0_23 i
  | 24 => lit0t0_24 i
  | 25 => lit0t0_25 i
  | 26 => lit0t0_26 i
  | 27 => lit0t0_27 i
  | 28 => lit0t0_28 i
  | 29 => lit0t0_29 i
  | 30 => lit0t0_30 i
  | 31 => lit0t0_31 i
  | _ => 0#32

noncomputable abbrev lit0 : Fin 4096 → BitVec 32 := fun ⟨i, _⟩ => lit0t i

def fn_part1 {F : FTy → Type} [FloatOps F] (main_v12 : FVec F S1024x12x64x64 .f32) (main_v19 : FVec F S12x64x64 .f32) : IVec S1024x12x64x16 1 :=
  let main_v20 : FVec F S1x12x64x64 .f32 := broadcastInDim S1x12x64x64 ![1, 2, 3] bcast_S12x64x64_S1x12x64x64_1_2_3 main_v19
  let main_v21 : FVec F S1024x12x64x64 .f32 := broadcastInDim S1024x12x64x64 ![0, 1, 2, 3] bcast_S1x12x64x64_S1024x12x64x64_0_1_2_3 main_v20
  let main_v22 : FVec F S1024x12x64x64 .f32 := addf main_v12 main_v21
  let main_values : FVec F S1024x12x64x17 .f32 := (fun x => (Host.topK S1024x12x64x17 3 (FloatOps.cmpfTotal .gt) x sliceFits_S1024x12x64x64_S1024x12x64x17).1) main_v22
  let main_indices : IVec S1024x12x64x17 32 := (fun x => (Host.topK S1024x12x64x17 3 (FloatOps.cmpfTotal .gt) x sliceFits_S1024x12x64x64_S1024x12x64x17).2) main_v22
  let main_v23 : FVec F S1024x12x64x16 .f32 := (extractStridedSlice S1024x12x64x16 ![0, 0, 0, 0] · slices_S1024x12x64x17_S1024x12x64x16_0_0_0_0) main_values
  let main_v24 : FVec F S1024x12x64x16 .f32 := (extractStridedSlice S1024x12x64x16 ![0, 0, 0, 1] · slices_S1024x12x64x17_S1024x12x64x16_0_0_0_1) main_values
  let main_v25 : IVec S1024x12x64x16 1 := cmpf .ogt main_v23 main_v24
  let main_v26 : FVec F S1024x12x64x16 .f32 := (extractStridedSlice S1024x12x64x16 ![0, 0, 0, 0] · slices_S1024x12x64x17_S1024x12x64x16_0_0_0_0) main_values
  let main_cst_2 : FVec F S_ .f32 := constant S_ .f32 0x7F800000#32
  let main_v27 : FVec F S1024x12x64x16 .f32 := broadcastInDim S1024x12x64x16 ![] bcast_S_S1024x12x64x16 main_cst_2
  let main_v28 : IVec S1024x12x64x16 1 := cmpf .olt main_v26 main_v27
  let main_v29 : IVec S1024x12x64x16 1 := andi main_v25 main_v28
  main_v29

def fn {F : FTy → Type} [FloatOps F] (main_arg0 : FVec F S1024x64x384 .f32) (main_arg1 : FVec F S384x1152 .f32) (main_arg2 : FVec F S1152 .f32) (main_arg3 : FVec F S225x12 .f32) (main_arg4 : FVec F S384x384 .f32) (main_arg5 : FVec F S384 .f32) : IVec S1024x12x64x16 1 :=
  let main_c : IVec S4096 32 := fun i => lit0 (S4096.rowMajor i)
  let main_c_0 : IVec S4096 1 := constantI S4096 1 0#1
  let main_v0 : FVec F S1024x64x1152 .f32 := (fun l r => Host.dotGeneral dot_S1024x64x384_S384x1152_S1024x64x1152_2_0_01_1_n_n none l r) main_arg0 main_arg1
  let main_v1 : FVec F S1x1x1152 .f32 := broadcastInDim S1x1x1152 ![2] bcast_S1152_S1x1x1152_2 main_arg2
  let main_v2 : FVec F S1024x64x1152 .f32 := broadcastInDim S1024x64x1152 ![0, 1, 2] bcast_S1x1x1152_S1024x64x1152_0_1_2 main_v1
  let main_v3 : FVec F S1024x64x1152 .f32 := addf main_v0 main_v2
  let main_v4 : FVec F S1024x64x3x12x32 .f32 := shapeCast S1024x64x3x12x32 main_v3 shapeCasts_S1024x64x1152_S1024x64x3x12x32
  let main_v5 : FVec F S3x1024x12x64x32 .f32 := (transpose S3x1024x12x64x32 [2, 0, 3, 1, 4] · transposes_S1024x64x3x12x32_S3x1024x12x64x32_2_0_3_1_4) main_v4
  let main_v6 : FVec F S1x1024x12x64x32 .f32 := (extractStridedSlice S1x1024x12x64x32 ![0, 0, 0, 0, 0] · slices_S3x1024x12x64x32_S1x1024x12x64x32_0_0_0_0_0) main_v5
  let main_v7 : FVec F S1024x12x64x32 .f32 := shapeCast S1024x12x64x32 main_v6 shapeCasts_S1x1024x12x64x32_S1024x12x64x32
  let main_cst : FVec F S_ .f32 := constant S_ .f32 0x3E3504F3#32
  let main_v8 : FVec F S1024x12x64x32 .f32 := broadcastInDim S1024x12x64x32 ![] bcast_S_S1024x12x64x32 main_cst
  let main_v9 : FVec F S1024x12x64x32 .f32 := mulf main_v7 main_v8
  let main_v10 : FVec F S1x1024x12x64x32 .f32 := (extractStridedSlice S1x1024x12x64x32 ![1, 0, 0, 0, 0] · slices_S3x1024x12x64x32_S1x1024x12x64x32_1_0_0_0_0) main_v5
  let main_v11 : FVec F S1024x12x64x32 .f32 := shapeCast S1024x12x64x32 main_v10 shapeCasts_S1x1024x12x64x32_S1024x12x64x32
  let main_v12 : FVec F S1024x12x64x64 .f32 := (fun l r => Host.dotGeneral dot_S1024x12x64x32_S1024x12x64x32_S1024x12x64x64_3_3_2_2_01_01 none l r) main_v9 main_v11
  let main_c_1 : IVec S_ 32 := constantI S_ 32 225#32
  let main_v13 : IVec S4096 32 := broadcastInDim S4096 ![] bcast_S_S4096 main_c_1
  let main_v14 : IVec S4096 32 := addi main_c main_v13
  let main_v15 : IVec S4096 32 := select main_c_0 main_v14 main_c
  let main_v16 : IVec S4096x1 32 := broadcastInDim S4096x1 ![0] bcast_S4096_S4096x1_0 main_v15
  let main_v17 : FVec F S4096x12 .f32 := (fun x i => Host.gather gather_S225x12_S4096x1_S4096x12_1_0_n_n_0_1_112 x i) main_arg3 main_v16
  let main_v18 : FVec F S64x64x12 .f32 := shapeCast S64x64x12 main_v17 shapeCasts_S4096x12_S64x64x12
  let main_v19 : FVec F S12x64x64 .f32 := (transpose S12x64x64 [2, 0, 1] · transposes_S64x64x12_S12x64x64_2_0_1) main_v18
  fn_part1 (F := F) main_v12 main_v19
-- ==== Kernel.lean ====
abbrev S1024x64x384 : Shape := ⟨3, ![1024, 64, 384]⟩
abbrev S384x1152 : Shape := ⟨2, ![384, 1152]⟩
abbrev S1152 : Shape := ⟨1, ![1152]⟩
abbrev S225x12 : Shape := ⟨2, ![225, 12]⟩
abbrev S384x384 : Shape := ⟨2, ![384, 384]⟩
abbrev S384 : Shape := ⟨1, ![384]⟩
abbrev S4096 : Shape := ⟨1, ![4096]⟩
abbrev S65536x384 : Shape := ⟨2, ![65536, 384]⟩
abbrev S_ : Shape := ⟨0, ![]⟩
abbrev S4096x1 : Shape := ⟨2, ![4096, 1]⟩
abbrev S4096x12 : Shape := ⟨2, ![4096, 12]⟩
abbrev S64x64x12 : Shape := ⟨3, ![64, 64, 12]⟩
abbrev S12x64x64 : Shape := ⟨3, ![12, 64, 64]⟩
abbrev S6x2x64x64 : Shape := ⟨4, ![6, 2, 64, 64]⟩
abbrev S6x64x2x64 : Shape := ⟨4, ![6, 64, 2, 64]⟩
abbrev S6x64x128 : Shape := ⟨3, ![6, 64, 128]⟩
abbrev S1x1152 : Shape := ⟨2, ![1, 1152]⟩
abbrev S1x384 : Shape := ⟨2, ![1, 384]⟩
abbrev S256x384 : Shape := ⟨2, ![256, 384]⟩
abbrev S256x1152 : Shape := ⟨2, ![256, 1152]⟩
abbrev S64x128 : Shape := ⟨2, ![64, 128]⟩
abbrev S1x64x128 : Shape := ⟨3, ![1, 64, 128]⟩
abbrev S128x128 : Shape := ⟨2, ![128, 128]⟩
abbrev S128x64 : Shape := ⟨2, ![128, 64]⟩
abbrev S32x128 : Shape := ⟨2, ![32, 128]⟩
abbrev S8x128 : Shape := ⟨2, ![8, 128]⟩
abbrev S4x128 : Shape := ⟨2, ![4, 128]⟩
abbrev S2x128 : Shape := ⟨2, ![2, 128]⟩
abbrev S1x128 : Shape := ⟨2, ![1, 128]⟩

abbrev nBuf : Space → Nat
  | .hbm => 23
  | .vmem => 11
  | .smem => 0
  | _ => 0

abbrev bufTy : (tb : Table) → Fin (tcTables nBuf tb) → BufTy
  | .hbm, ⟨0, _⟩ => ⟨S1024x64x384, .f32⟩
  | .hbm, ⟨1, _⟩ => ⟨S384x1152, .f32⟩
  | .hbm, ⟨2, _⟩ => ⟨S1152, .f32⟩
  | .hbm, ⟨3, _⟩ => ⟨S225x12, .f32⟩
  | .hbm, ⟨4, _⟩ => ⟨S384x384, .f32⟩
  | .hbm, ⟨5, _⟩ => ⟨S384, .f32⟩
  | .hbm, ⟨6, _⟩ => ⟨S4096, .i32⟩
  | .hbm, ⟨7, _⟩ => ⟨S4096, .i1⟩
  | .hbm, ⟨8, _⟩ => ⟨S65536x384, .f32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S4096x12, .f32⟩
  | .hbm, ⟨15, _⟩ => ⟨S64x64x12, .f32⟩
  | .hbm, ⟨16, _⟩ => ⟨S12x64x64, .f32⟩
  | .hbm, ⟨17, _⟩ => ⟨S6x2x64x64, .f32⟩
  | .hbm, ⟨18, _⟩ => ⟨S6x64x2x64, .f32⟩
  | .hbm, ⟨19, _⟩ => ⟨S6x64x128, .f32⟩
  | .hbm, ⟨20, _⟩ => ⟨S1x1152, .f32⟩
  | .hbm, ⟨21, _⟩ => ⟨S1x384, .f32⟩
  | .hbm, ⟨22, _⟩ => ⟨S65536x384, .f32⟩
  | .local _ .vmem, ⟨0, _⟩ => ⟨S256x384, .f32⟩
  | .local _ .vmem, ⟨1, _⟩ => ⟨S256x384, .f32⟩
  | .local _ .vmem, ⟨2, _⟩ => ⟨S384x1152, .f32⟩
  | .local _ .vmem, ⟨3, _⟩ => ⟨S1x1152, .f32⟩
  | .local _ .vmem, ⟨4, _⟩ => ⟨S6x64x128, .f32⟩
  | .local _ .vmem, ⟨5, _⟩ => ⟨S384x384, .f32⟩
  | .local _ .vmem, ⟨6, _⟩ => ⟨S1x384, .f32⟩
  | .local _ .vmem, ⟨7, _⟩ => ⟨S256x384, .f32⟩
  | .local _ .vmem, ⟨8, _⟩ => ⟨S256x384, .f32⟩
  | .local _ .vmem, ⟨9, _⟩ => ⟨S256x1152, .f32⟩
  | .local _ .vmem, ⟨10, _⟩ => ⟨S256x384, .f32⟩
  | _, _ => ⟨S1024x64x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_c_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S1024x64x384 : Shape := ⟨3, ![1024, 64, 384]⟩
abbrev S384x1152 : Shape := ⟨2, ![384, 1152]⟩
abbrev S1152 : Shape := ⟨1, ![1152]⟩
abbrev S225x12 : Shape := ⟨2, ![225, 12]⟩
abbrev S384x384 : Shape := ⟨2, ![384, 384]⟩
abbrev S384 : Shape := ⟨1, ![384]⟩
abbrev S4096 : Shape := ⟨1, ![4096]⟩
abbrev S1024x64x1152 : Shape := ⟨3, ![1024, 64, 1152]⟩
abbrev S1x1x1152 : Shape := ⟨3, ![1, 1, 1152]⟩
abbrev S1024x64x3x12x32 : Shape := ⟨5, ![1024, 64, 3, 12, 32]⟩
abbrev S3x1024x12x64x32 : Shape := ⟨5, ![3, 1024, 12, 64, 32]⟩
abbrev S1x1024x12x64x32 : Shape := ⟨5, ![1, 1024, 12, 64, 32]⟩
abbrev S1024x12x64x32 : Shape := ⟨4, ![1024, 12, 64, 32]⟩
abbrev S_ : Shape := ⟨0, ![]⟩
abbrev S1024x12x64x64 : Shape := ⟨4, ![1024, 12, 64, 64]⟩
abbrev S4096x1 : Shape := ⟨2, ![4096, 1]⟩
abbrev S4096x12 : Shape := ⟨2, ![4096, 12]⟩
abbrev S64x64x12 : Shape := ⟨3, ![64, 64, 12]⟩
abbrev S12x64x64 : Shape := ⟨3, ![12, 64, 64]⟩
abbrev S1x12x64x64 : Shape := ⟨4, ![1, 12, 64, 64]⟩
abbrev S1024x12x64x16 : Shape := ⟨4, ![1024, 12, 64, 16]⟩
abbrev S1024x12x64 : Shape := ⟨3, ![1024, 12, 64]⟩
abbrev S1024x12x64x1 : Shape := ⟨4, ![1024, 12, 64, 1]⟩
abbrev S1024x12x64x16x1 : Shape := ⟨5, ![1024, 12, 64, 16, 1]⟩
abbrev S1024x12x64x16x32 : Shape := ⟨5, ![1024, 12, 64, 16, 32]⟩
abbrev S1024x64x12x32 : Shape := ⟨4, ![1024, 64, 12, 32]⟩
abbrev S1x1x384 : Shape := ⟨3, ![1, 1, 384]⟩
abbrev S65536x384 : Shape := ⟨2, ![65536, 384]⟩

abbrev nBuf : Space → Nat
  | .hbm => 72
  | .vmem => 0
  | .smem => 0
  | _ => 0

abbrev bufTy : (tb : Table) → Fin (tcTables nBuf tb) → BufTy
  | .hbm, ⟨0, _⟩ => ⟨S1024x64x384, .f32⟩
  | .hbm, ⟨1, _⟩ => ⟨S384x1152, .f32⟩
  | .hbm, ⟨2, _⟩ => ⟨S1152, .f32⟩
  | .hbm, ⟨3, _⟩ => ⟨S225x12, .f32⟩
  | .hbm, ⟨4, _⟩ => ⟨S384x384, .f32⟩
  | .hbm, ⟨5, _⟩ => ⟨S384, .f32⟩
  | .hbm, ⟨6, _⟩ => ⟨S4096, .i32⟩
  | .hbm, ⟨7, _⟩ => ⟨S4096, .i1⟩
  | .hbm, ⟨8, _⟩ => ⟨S1024x64x1152, .f32⟩
  | .hbm, ⟨9, _⟩ => ⟨S1x1x1152, .f32⟩
  | .hbm, ⟨10, _⟩ => ⟨S1024x64x1152, .f32⟩
  | .hbm, ⟨11, _⟩ => ⟨S1024x64x1152, .f32⟩
  | .hbm, ⟨12, _⟩ => ⟨S1024x64x3x12x32, .f32⟩
  | .hbm, ⟨13, _⟩ => ⟨S3x1024x12x64x32, .f32⟩
  | .hbm, ⟨14, _⟩ => ⟨S1x1024x12x64x32, .f32⟩
  | .hbm, ⟨15, _⟩ => ⟨S1024x12x64x32, .f32⟩
  | .hbm, ⟨16, _⟩ => ⟨S1x1024x12x64x32, .f32⟩
  | .hbm, ⟨17, _⟩ => ⟨S1024x12x64x32, .f32⟩
  | .hbm, ⟨18, _⟩ => ⟨S1x1024x12x64x32, .f32⟩
  | .hbm, ⟨19, _⟩ => ⟨S1024x12x64x32, .f32⟩
  | .hbm, ⟨20, _⟩ => ⟨S_, .f32⟩
  | .hbm, ⟨21, _⟩ => ⟨S1024x12x64x32, .f32⟩
  | .hbm, ⟨22, _⟩ => ⟨S1024x12x64x32, .f32⟩
  | .hbm, ⟨23, _⟩ => ⟨S1024x12x64x64, .f32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S4096x1, .i32⟩
  | .hbm, ⟨29, _⟩ => ⟨S4096x12, .f32⟩
  | .hbm, ⟨30, _⟩ => ⟨S64x64x12, .f32⟩
  | .hbm, ⟨31, _⟩ => ⟨S12x64x64, .f32⟩
  | .hbm, ⟨32, _⟩ => ⟨S1x12x64x64, .f32⟩
  | .hbm, ⟨33, _⟩ => ⟨S1024x12x64x64, .f32⟩
  | .hbm, ⟨34, _⟩ => ⟨S1024x12x64x64, .f32⟩
  | .hbm, ⟨35, _⟩ => ⟨S1024x12x64x16, .f32⟩
  | .hbm, ⟨36, _⟩ => ⟨S1024x12x64x16, .i32⟩
  | .hbm, ⟨37, _⟩ => ⟨S_, .f32⟩
  | .hbm, ⟨38, _⟩ => ⟨S1024x12x64, .f32⟩
  | .hbm, ⟨39, _⟩ => ⟨S_, .f32⟩
  | .hbm, ⟨40, _⟩ => ⟨S1024x12x64, .f32⟩
  | .hbm, ⟨41, _⟩ => ⟨S1024x12x64, .f32⟩
  | .hbm, ⟨42, _⟩ => ⟨S1024x12x64x1, .f32⟩
  | .hbm, ⟨43, _⟩ => ⟨S1024x12x64x16, .f32⟩
  | .hbm, ⟨44, _⟩ => ⟨S1024x12x64x16, .f32⟩
  | .hbm, ⟨45, _⟩ => ⟨S1024x12x64x16, .f32⟩
  | .hbm, ⟨46, _⟩ => ⟨S_, .f32⟩
  | .hbm, ⟨47, _⟩ => ⟨S1024x12x64, .f32⟩
  | .hbm, ⟨48, _⟩ => ⟨S1024x12x64x1, .f32⟩
  | .hbm, ⟨49, _⟩ => ⟨S1024x12x64x16, .f32⟩
  | .hbm, ⟨50, _⟩ => ⟨S1024x12x64x16, .f32⟩
  | .hbm, ⟨51, _⟩ => ⟨S_, .i32⟩
  | .hbm, ⟨52, _⟩ => ⟨S1024x12x64x16, .i32⟩
  | .hbm, ⟨53, _⟩ => ⟨S1024x12x64x16, .i1⟩
  | .hbm, ⟨54, _⟩ => ⟨S_, .i32⟩
  | .hbm, ⟨55, _⟩ => ⟨S1024x12x64x16, .i32⟩
  | .hbm, ⟨56, _⟩ => ⟨S1024x12x64x16, .i32⟩
  | .hbm, ⟨57, _⟩ => ⟨S1024x12x64x16, .i32⟩
  | .hbm, ⟨58, _⟩ => ⟨S1024x12x64x16x1, .i32⟩
  | .hbm, ⟨59, _⟩ => ⟨S1024x12x64x16x32, .f32⟩
  | .hbm, ⟨60, _⟩ => ⟨S1024x12x64x16x1, .f32⟩
  | .hbm, ⟨61, _⟩ => ⟨S1024x12x64x16x32, .f32⟩
  | .hbm, ⟨62, _⟩ => ⟨S1024x12x64x16x32, .f32⟩
  | .hbm, ⟨63, _⟩ => ⟨S_, .f32⟩
  | .hbm, ⟨64, _⟩ => ⟨S1024x12x64x32, .f32⟩
  | .hbm, ⟨65, _⟩ => ⟨S1024x64x12x32, .f32⟩
  | .hbm, ⟨66, _⟩ => ⟨S1024x64x384, .f32⟩
  | .hbm, ⟨67, _⟩ => ⟨S1024x64x384, .f32⟩
  | .hbm, ⟨68, _⟩ => ⟨S1x1x384, .f32⟩
  | .hbm, ⟨69, _⟩ => ⟨S1024x64x384, .f32⟩
  | .hbm, ⟨70, _⟩ => ⟨S1024x64x384, .f32⟩
  | .hbm, ⟨71, _⟩ => ⟨S65536x384, .f32⟩
  | _, _ => ⟨S1024x64x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_values : Ref sig .tc := ⟨.hbm, 35, rfl⟩
abbrev main_indices : Ref sig .tc := ⟨.hbm, 36, rfl⟩
abbrev main_cst_2 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_c_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Proof.Tile.lean ====
/- One tile of the kernel's body — one window, one pair of heads — as a function of what it reads, written as the
   operations of the printed body; and the list of the body's stores into its accumulator, by recursion on their number. -/
module

public import proofs.«01_k».proof.Proof.Gen.KernelIdeal.Frame.RunA

@[expose] public section

set_option maxRecDepth 16384

noncomputable section

namespace Cert.KernelIdeal.Tile

open Idealize.ShloMosaic Idealize.SL.Sem Cert.KernelIdeal Cert.KernelIdeal.Gen

variable {F : FTy → Type} [FloatOps F] [Named F]

/-- The lanes `a ≤ lane < b` of a 64 by 128 array. -/
def lanes (a b : BitVec 32) : IVec S64x128 1 :=
  andi (cmpi .sge (iota .tc S64x128 32 [1] iota_S64x128_d1_w32) (broadcast S64x128 a))
    (cmpi .slt (iota .tc S64x128 32 [1] iota_S64x128_d1_w32) (broadcast S64x128 b))

/-- The scaled queries of the two heads, one below the other, each zero outside its own lanes. -/
def packed (m₁ m₂ : IVec S64x128 1) (q : FVec F S64x128 .f32) : FVec F S128x128 .f32 :=
  concatenate S128x128 0
    [⟨S64x128, select m₁ (mulf q (broadcast S64x128 (Scalar.ofBits .f32 0x3E3504F3#32))) (broadcast S64x128 (Scalar.ofBits .f32 0x00000000#32))⟩,
     ⟨S64x128, select m₂ (mulf q (broadcast S64x128 (Scalar.ofBits .f32 0x3E3504F3#32))) (broadcast S64x128 (Scalar.ofBits .f32 0x00000000#32))⟩]
    concatenates_S64x128_S64x128_S128x128_d0

/-- The scores: row = key, lane = query of the first head, then query of the second. -/
def scores (m₁ m₂ : IVec S64x128 1) (b : FVec F S1x64x128 .f32) (q k : FVec F S64x128 .f32) : FVec F S64x128 .f32 :=
  addf (transpose S64x128 [1, 0]
      (matmul dot_S128x128_S64x128_S128x64_1_1_0_0_n_n none (packed m₁ m₂ q) k (constant S128x64 .f32 0x00000000#32))
      transposes_S128x64_p1_0_S64x128)
    (shapeCast S64x128 b shapeCasts_S1x64x128_S64x128)

/-- The four eighths of 32 rows, combined. -/
def quarters (f : FVec F S8x128 .f32 → FVec F S8x128 .f32 → FVec F S8x128 .f32) (x : FVec F S32x128 .f32) : FVec F S8x128 .f32 :=
  f (f (extractStridedSlice S8x128 ![0, 0] x slices_S32x128_o0_0_S8x128) (extractStridedSlice S8x128 ![8, 0] x slices_S32x128_o8_0_S8x128))
    (f (extractStridedSlice S8x128 ![16, 0] x slices_S32x128_o16_0_S8x128) (extractStridedSlice S8x128 ![24, 0] x slices_S32x128_o24_0_S8x128))

/-- Eight rows halved to one by an operation given at each of the three sizes. -/
def halve4 (f : FVec F S4x128 .f32 → FVec F S4x128 .f32 → FVec F S4x128 .f32) (x : FVec F S8x128 .f32) : FVec F S4x128 .f32 :=
  f (extractStridedSlice S4x128 ![0, 0] x slices_S8x128_o0_0_S4x128) (extractStridedSlice S4x128 ![4, 0] x slices_S8x128_o4_0_S4x128)
def halve2 (f : FVec F S2x128 .f32 → FVec F S2x128 .f32 → FVec F S2x128 .f32) (x : FVec F S4x128 .f32) : FVec F S2x128 .f32 :=
  f (extractStridedSlice S2x128 ![0, 0] x slices_S4x128_o0_0_S2x128) (extractStridedSlice S2x128 ![2, 0] x slices_S4x128_o2_0_S2x128)
def halve1 (f : FVec F S1x128 .f32 → FVec F S1x128 .f32 → FVec F S1x128 .f32) (x : FVec F S2x128 .f32) : FVec F S1x128 .f32 :=
  f (extractStridedSlice S1x128 ![0, 0] x slices_S2x128_o0_0_S1x128) (extractStridedSlice S1x128 ![1, 0] x slices_S2x128_o1_0_S1x128)

/-- The greatest of 32 rows, lane by lane. -/
def top (x : FVec F S32x128 .f32) : FVec F S1x128 .f32 := halve1 maximumf (halve2 maximumf (halve4 maximumf (quarters maximumf x)))

/-- The sum of 64 rows, lane by lane. -/
def total (x : FVec F S64x128 .f32) : FVec F S1x128 .f32 :=
  halve1 addf (halve2 addf (halve4 addf
    (addf
      (addf (addf (extractStridedSlice S8x128 ![0, 0] x slices_S64x128_o0_0_S8x128) (extractStridedSlice S8x128 ![8, 0] x slices_S64x128_o8_0_S8x128))
        (addf (extractStridedSlice S8x128 ![16, 0] x slices_S64x128_o16_0_S8x128) (extractStridedSlice S8x128 ![24, 0] x slices_S64x128_o24_0_S8x128)))
      (addf (addf (extractStridedSlice S8x128 ![32, 0] x slices_S64x128_o32_0_S8x128) (extractStridedSlice S8x128 ![40, 0] x slices_S64x128_o40_0_S8x128))
        (addf (extractStridedSlice S8x128 ![48, 0] x slices_S64x128_o48_0_S8x128) (extractStridedSlice S8x128 ![56, 0] x slices_S64x128_o56_0_S8x128))))))

/-- Where the greatest remaining score stands. -/
def hit (hi : FVec F S32x128 .f32) : IVec S32x128 1 := cmpf .oge hi (broadcastTo S32x128 (top hi) broadcasts_S1x128_S32x128)

/-- One round: where the greatest remaining score stands, the upper list takes the lower one's entry, and the lower one
    is emptied. -/
def round (p : FVec F S32x128 .f32 × FVec F S32x128 .f32) : FVec F S32x128 .f32 × FVec F S32x128 .f32 :=
  (select (hit p.1) p.2 p.1, select (hit p.1) (broadcast S32x128 (Named.named κ "mask" 0xF149F2CA#32)) p.2)

/-- The two sorted halves of the scores. -/
def start (s : FVec F S64x128 .f32) : FVec F S32x128 .f32 × FVec F S32x128 .f32 :=
  (maximumf (extractStridedSlice S32x128 ![0, 0] s slices_S64x128_o0_0_S32x128) (extractStridedSlice S32x128 ![32, 0] s slices_S64x128_o32_0_S32x128),
   minimumf (extractStridedSlice S32x128 ![0, 0] s slices_S64x128_o0_0_S32x128) (extractStridedSlice S32x128 ![32, 0] s slices_S64x128_o32_0_S32x128))

/-- The upper and lower lists after `n` rounds. -/
def rounds (s : FVec F S64x128 .f32) : Nat → FVec F S32x128 .f32 × FVec F S32x128 .f32
  | 0 => start s
  | n + 1 => round (rounds s n)

/-- The exponentials of the scores kept, zero at the others. -/
def kept (s : FVec F S64x128 .f32) : FVec F S64x128 .f32 :=
  select (cmpf .oge s (broadcastTo S64x128 (top (rounds s 15).1) broadcasts_S1x128_S64x128))
    (exp (subf s (broadcastTo S64x128 (top (rounds s 0).1) broadcasts_S1x128_S64x128)))
    (broadcast S64x128 (Scalar.ofBits .f32 0x00000000#32))

/-- The weights, a query a row. -/
def weights (s : FVec F S64x128 .f32) : FVec F S128x64 .f32 :=
  transpose S128x64 [1, 0]
    (mulf (kept s) (broadcastTo S64x128 (divf (broadcast S1x128 (Scalar.ofBits .f32 0x3F800000#32)) (total (kept s))) broadcasts_S1x128_S64x128))
    transposes_S64x128_p1_0_S128x64

/-- The weighted values of the two heads, each in its own lanes, from the scores. -/
def mixed (m₁ m₂ : IVec S64x128 1) (s v : FVec F S64x128 .f32) : FVec F S64x128 .f32 :=
  select m₁
    (extractStridedSlice S64x128 ![0, 0] (matmul dot_S128x64_S64x128_S128x128_1_0_0_1_n_n none (weights s) v (constant S128x128 .f32 0x00000000#32)) slices_S128x128_o0_0_S64x128)
    (select m₂
      (extractStridedSlice S64x128 ![64, 0] (matmul dot_S128x64_S64x128_S128x128_1_0_0_1_n_n none (weights s) v (constant S128x128 .f32 0x00000000#32)) slices_S128x128_o64_0_S64x128)
      (broadcast S64x128 (Scalar.ofBits .f32 0x00000000#32)))

/-- The tile: the accumulator's block plus the two heads' output. -/
def tile (m₁ m₂ : IVec S64x128 1) (b : FVec F S1x64x128 .f32) (q k v acc : FVec F S64x128 .f32) : FVec F S64x128 .f32 :=
  shapeCast S64x128 (addf acc (mixed m₁ m₂ (scores m₁ m₂ b q k) v)) shapeCasts_S64x128_S64x128

/-! ## The stores into the accumulator -/

/-- Store `n` goes to window `n % 4` of the point and lane group `n / 8`. -/
def place (n : Nat) : Rect S256x384 :=
  Rect.unit (s := S256x384) ![64 * (n % 4), 128 * (n / 8 % 3)] S64x128.size (by
    intro a; have := Nat.mod_lt n (show 0 < 4 by decide); have := Nat.mod_lt (n / 8) (show 0 < 3 by decide)
    fin_cases a <;> simp [S64x128, S256x384] <;> omega)

/-- The block of the projected input it reads, `off` columns to the right: queries at 0, keys at 384, values at 768. -/
def source (n : Nat) (off : Fin 3) : Rect S256x1152 :=
  Rect.unit (s := S256x1152) ![64 * (n % 4), 128 * (n / 8 % 3) + 384 * off.val] S64x128.size (by
    intro a; have := Nat.mod_lt n (show 0 < 4 by decide); have := Nat.mod_lt (n / 8) (show 0 < 3 by decide)
    fin_cases a <;> simp [S64x128, S256x1152] <;> omega)

/-- The pair of heads whose biases it reads. -/
def pair (n : Nat) : Rect S6x64x128 :=
  Rect.unit (s := S6x64x128) ![n / 4 % 6, 0, 0] S1x64x128.size (by
    intro a; have := Nat.mod_lt (n / 4) (show 0 < 6 by decide)
    fin_cases a <;> simp [S1x64x128, S6x64x128] <;> omega)

section Stores

variable (c : Dev nD) (arg1 : Memref sig .tc .vmem S256x384 .f32) (harg1 : arg1.IsWhole) (arg2 : Memref sig .tc .vmem S384x1152 .f32)
  (harg2 : arg2.IsWhole) (arg3 : Memref sig .tc .vmem S1x1152 .f32) (harg3 : arg3.IsWhole) (arg4 : Memref sig .tc .vmem S6x64x128 .f32)
  (harg4 : arg4.IsWhole) (arg8 : Memref sig .tc .vmem S256x1152 .f32) (arg9 : Memref sig .tc .vmem S256x384 .f32)
  (x0 : Vec F S256x384 .f32) (x1 : Vec F S384x1152 .f32) (x2 : Vec F S1x1152 .f32) (x3 : Vec F S6x64x128 .f32)

/-- The first `n` stores into the accumulator after its zero fill, the last one first. -/
def stores : Nat → List (View.Piece (Elt F) S256x384 .f32)
  | 0 => [⟨Rect.unit (s := S256x384) ![0, 0] S256x384.size (fun a => by fin_cases a <;> simp), k0_pay4⟩]
  | n + 1 => ⟨place n,
      tile (lanes (BitVec.ofNat 32 (64 * (n / 4 % 2))) (BitVec.ofNat 32 (64 * (n / 4 % 2) + 32)))
        (lanes (BitVec.ofNat 32 (64 * (n / 4 % 2) + 32)) (BitVec.ofNat 32 (64 * (n / 4 % 2) + 64)))
        (View.readAt (Elt F) arg4.view (pair n).toLoadRect (harg4.unread x3))
        (arg8.view.readCov (kernelRun0_A.sl.HS0_1 c arg1 harg1 arg2 harg2 arg3 harg3 x0 x1 x2) (source n 0).toLoadRect)
        (arg8.view.readCov (kernelRun0_A.sl.HS0_1 c arg1 harg1 arg2 harg2 arg3 harg3 x0 x1 x2) (source n 1).toLoadRect)
        (arg8.view.readCov (kernelRun0_A.sl.HS0_1 c arg1 harg1 arg2 harg2 arg3 harg3 x0 x1 x2) (source n 2).toLoadRect)
        (arg9.view.readCov (stores n) (place n).toLoadRect)⟩ :: stores n

end Stores

end Cert.KernelIdeal.Tile

end
-- ==== Proof.Stores.lean ====
/- The body's stores into its accumulator are the tiles' list. -/
module

public import proofs.«01_k».proof.Proof.Tile

@[expose] public section

set_option maxRecDepth 16384

noncomputable section

namespace Cert.KernelIdeal.Tile

open Idealize.ShloMosaic Idealize.SL.Sem Cert.KernelIdeal Cert.KernelIdeal.Gen

variable {F : FTy → Type} [FloatOps F] [Named F]

variable (c : Dev nD) (arg1 : Memref sig .tc .vmem S256x384 .f32) (harg1 : arg1.IsWhole) (arg2 : Memref sig .tc .vmem S384x1152 .f32)
  (harg2 : arg2.IsWhole) (arg3 : Memref sig .tc .vmem S1x1152 .f32) (harg3 : arg3.IsWhole) (arg4 : Memref sig .tc .vmem S6x64x128 .f32)
  (harg4 : arg4.IsWhole) (arg8 : Memref sig .tc .vmem S256x1152 .f32) (arg9 : Memref sig .tc .vmem S256x384 .f32)
  (x0 : Vec F S256x384 .f32) (x1 : Vec F S384x1152 .f32) (x2 : Vec F S1x1152 .f32) (x3 : Vec F S6x64x128 .f32)

/-- Store `n` on top of the stores `L` before it. -/
def next (n : Nat) (L : List (View.Piece (Elt F) S256x384 .f32)) : List (View.Piece (Elt F) S256x384 .f32) :=
  ⟨place n,
    tile (lanes (BitVec.ofNat 32 (64 * (n / 4 % 2))) (BitVec.ofNat 32 (64 * (n / 4 % 2) + 32)))
      (lanes (BitVec.ofNat 32 (64 * (n / 4 % 2) + 32)) (BitVec.ofNat 32 (64 * (n / 4 % 2) + 64)))
      (View.readAt (Elt F) arg4.view (pair n).toLoadRect (harg4.unread x3))
      (arg8.view.readCov (kernelRun0_A.sl.HS0_1 c arg1 harg1 arg2 harg2 arg3 harg3 x0 x1 x2) (source n 0).toLoadRect)
      (arg8.view.readCov (kernelRun0_A.sl.HS0_1 c arg1 harg1 arg2 harg2 arg3 harg3 x0 x1 x2) (source n 1).toLoadRect)
      (arg8.view.readCov (kernelRun0_A.sl.HS0_1 c arg1 harg1 arg2 harg2 arg3 harg3 x0 x1 x2) (source n 2).toLoadRect)
      (arg9.view.readCov L (place n).toLoadRect)⟩ :: L

variable {c arg1 harg1 arg2 harg2 arg3 harg3 arg4 harg4 arg8 arg9 x0 x1 x2 x3} in
/-- A list that is one store on top of the first `n` is the first `n + 1`. -/
theorem peel {n : Nat} {A L : List (View.Piece (Elt F) S256x384 .f32)}
    (h : A = next c arg1 harg1 arg2 harg2 arg3 harg3 arg4 harg4 arg8 arg9 x0 x1 x2 x3 n L)
    (h' : L = stores c arg1 harg1 arg2 harg2 arg3 harg3 arg4 harg4 arg8 arg9 x0 x1 x2 x3 n) :
    A = stores c arg1 harg1 arg2 harg2 arg3 harg3 arg4 harg4 arg8 arg9 x0 x1 x2 x3 (n + 1) := by
  subst h'; exact h

set_option maxHeartbeats 4000000 in
theorem stores_eq : kernelRun0_A.sl.HS1_25 c arg1 harg1 arg2 harg2 arg3 harg3 arg4 harg4 arg8 arg9 x0 x1 x2 x3
    = stores c arg1 harg1 arg2 harg2 arg3 harg3 arg4 harg4 arg8 arg9 x0 x1 x2 x3 24 := by
  iterate 24 refine peel rfl ?_
  rfl

end Cert.KernelIdeal.Tile

end
-- ==== Proof.TopMath.lean ====
/- The mathematics of one query: taking the greatest of the remaining scores sixteen times over, on a column of
   sixty-four scores held as thirty-two pairs (greater, lesser), finds the scores a descending sort lists, and the
   weights above the sixteenth one are the softmax of the sixteen greatest. -/
module

public import Idealize.ShloMosaic.PureOps.Ideal
public import Mathlib.Data.EReal.Operations
public import Mathlib.Algebra.BigOperators.Fin

@[expose] public section

noncomputable section

namespace Cert.TopMath

open Idealize.ShloMosaic

/-- A descending listing of the sixty-four scores whose first seventeen are strictly decreasing. -/
structure Listing (st : Fin 64 → EReal) (σ : Fin 64 → Fin 64) : Prop where
  bij : Function.Bijective σ
  anti : ∀ i j, i < j → st (σ j) ≤ st (σ i)
  strict : ∀ i j : Fin 64, i.val < 16 → j.val = i.val + 1 → st (σ j) < st (σ i)

/-- One step of the search on the pairs `(greater, lesser)`: where the greater one attains the column's maximum the
    lesser takes its place and nothing is left below it. -/
def step (p : (Fin 32 → EReal) × (Fin 32 → EReal)) : (Fin 32 → EReal) × (Fin 32 → EReal) :=
  (fun r => if Finset.univ.sup p.1 ≤ p.1 r then p.2 r else p.1 r,
   fun r => if Finset.univ.sup p.1 ≤ p.1 r then ⊥ else p.2 r)

/-- The pairs the search starts from: row `r` against row `r + 32`. -/
def start (st : Fin 64 → EReal) : (Fin 32 → EReal) × (Fin 32 → EReal) :=
  (fun r => max (st ⟨r, by omega⟩) (st ⟨32 + r, by omega⟩), fun r => min (st ⟨r, by omega⟩) (st ⟨32 + r, by omega⟩))

/-- The maximum found after `n` steps. -/
def found (st : Fin 64 → EReal) (n : ℕ) : EReal := Finset.univ.sup (step^[n] (start st)).1

namespace Listing

variable {st : Fin 64 → EReal} {σ : Fin 64 → Fin 64} (h : Listing st σ)
include h

/-- Every one of the first sixteen is strictly above all that follow it. -/
theorem lt_of_lt {i j : Fin 64} (hi : i.val < 16) (hij : i < j) : st (σ j) < st (σ i) := by
  have hs := h.strict i ⟨i.val + 1, by omega⟩ hi rfl
  rcases eq_or_lt_of_le (show i.val + 1 ≤ j.val from hij) with e | e
  · have : j = ⟨i.val + 1, by omega⟩ := Fin.ext e.symm
    rw [this]; exact hs
  · exact lt_of_le_of_lt (h.anti ⟨i.val + 1, by omega⟩ j e) hs

/-- What is left of a score once the `n` greatest are taken away. -/
def left (_ : Listing st σ) (n : ℕ) (k : Fin 64) : EReal := if ∃ j : Fin 64, j.val < n ∧ σ j = k then ⊥ else st k

theorem left_listed (n : ℕ) (j : Fin 64) : h.left n (σ j) = if j.val < n then ⊥ else st (σ j) := by
  unfold left
  by_cases hj : j.val < n
  · rw [if_pos ⟨j, hj, rfl⟩, if_pos hj]
  · rw [if_neg (fun ⟨j', hj', e⟩ => hj (h.bij.1 e ▸ hj')), if_neg hj]

/-- The greatest of what is left is the next one listed. -/
theorem left_le (n : ℕ) (hn : n < 64) (k : Fin 64) : h.left n k ≤ st (σ ⟨n, hn⟩) := by
  obtain ⟨j, rfl⟩ := h.bij.2 k
  rw [h.left_listed]
  split
  · exact bot_le
  · rename_i hj
    rcases eq_or_lt_of_le (not_lt.1 hj) with e | e
    · rw [show j = ⟨n, hn⟩ from Fin.ext e.symm]
    · exact h.anti ⟨n, hn⟩ j e

theorem left_next (n : ℕ) (hn : n < 64) : h.left n (σ ⟨n, hn⟩) = st (σ ⟨n, hn⟩) := by
  rw [h.left_listed, if_neg (lt_irrefl n)]

/-- Only the next one listed attains it. -/
theorem eq_of_left_ge (n : ℕ) (hn : n < 16) (k : Fin 64) (hk : st (σ ⟨n, by omega⟩) ≤ h.left n k) : k = σ ⟨n, by omega⟩ := by
  obtain ⟨j, rfl⟩ := h.bij.2 k
  rw [h.left_listed] at hk
  have hb : (⊥ : EReal) < st (σ ⟨n, by omega⟩) :=
    lt_of_le_of_lt bot_le (h.lt_of_lt (i := ⟨n, by omega⟩) (j := ⟨n + 1, by omega⟩) hn (Nat.lt_succ_self n))
  split at hk
  · exact absurd (lt_of_lt_of_le hb hk) (lt_irrefl _)
  · rename_i hj
    rcases eq_or_lt_of_le (not_lt.1 hj) with e | e
    · rw [show j = ⟨n, by omega⟩ from Fin.ext e.symm]
    · exact absurd (lt_of_lt_of_le (h.lt_of_lt (i := ⟨n, by omega⟩) hn e) hk) (lt_irrefl _)

theorem left_succ_next (n : ℕ) (hn : n < 64) : h.left (n + 1) (σ ⟨n, hn⟩) = ⊥ := by
  rw [h.left_listed, if_pos (Nat.lt_succ_self n)]

theorem left_succ_other (n : ℕ) (hn : n < 64) (k : Fin 64) (hk : k ≠ σ ⟨n, hn⟩) : h.left (n + 1) k = h.left n k := by
  obtain ⟨j, rfl⟩ := h.bij.2 k
  have hj : j.val ≠ n := fun e => hk (by rw [show j = ⟨n, hn⟩ from Fin.ext e])
  rw [h.left_listed, h.left_listed]
  exact if_congr (by omega) rfl rfl

/-- The pairs of what is left. -/
def pairs (n : ℕ) : (Fin 32 → EReal) × (Fin 32 → EReal) := start (h.left n)

theorem sup_pairs (n : ℕ) (hn : n < 64) : Finset.univ.sup (h.pairs n).1 = st (σ ⟨n, hn⟩) := by
  refine le_antisymm (Finset.sup_le fun r _ => max_le (h.left_le n hn _) (h.left_le n hn _)) ?_
  rw [← h.left_next n hn]
  by_cases hc : (σ ⟨n, hn⟩).val < 32
  · refine le_trans ?_ (Finset.le_sup (f := (h.pairs n).1) (Finset.mem_univ ⟨(σ ⟨n, hn⟩).val, hc⟩))
    exact le_max_left _ _
  · refine le_trans ?_ (Finset.le_sup (f := (h.pairs n).1) (Finset.mem_univ ⟨(σ ⟨n, hn⟩).val - 32, by omega⟩))
    refine le_trans (le_of_eq ?_) (le_max_right _ _)
    exact congrArg (h.left n) (Fin.ext (by simp only; omega))

/-- One step takes away exactly the next one listed. -/
theorem step_pairs (n : ℕ) (hn : n < 16) : step (h.pairs n) = h.pairs (n + 1) := by
  have hS : Finset.univ.sup (h.pairs n).1 = st (σ ⟨n, by omega⟩) := h.sup_pairs n (by omega)
  have key : ∀ r : Fin 32,
      (if st (σ ⟨n, by omega⟩) ≤ (h.pairs n).1 r then (h.pairs n).2 r else (h.pairs n).1 r) = (h.pairs (n + 1)).1 r
      ∧ (if st (σ ⟨n, by omega⟩) ≤ (h.pairs n).1 r then ⊥ else (h.pairs n).2 r) = (h.pairs (n + 1)).2 r := by
    intro r
    show (if st (σ ⟨n, by omega⟩) ≤ max (h.left n ⟨r, by omega⟩) (h.left n ⟨32 + r, by omega⟩)
          then min (h.left n ⟨r, by omega⟩) (h.left n ⟨32 + r, by omega⟩) else max (h.left n ⟨r, by omega⟩) (h.left n ⟨32 + r, by omega⟩))
        = max (h.left (n + 1) ⟨r, by omega⟩) (h.left (n + 1) ⟨32 + r, by omega⟩)
      ∧ (if st (σ ⟨n, by omega⟩) ≤ max (h.left n ⟨r, by omega⟩) (h.left n ⟨32 + r, by omega⟩) then ⊥
          else min (h.left n ⟨r, by omega⟩) (h.left n ⟨32 + r, by omega⟩))
        = min (h.left (n + 1) ⟨r, by omega⟩) (h.left (n + 1) ⟨32 + r, by omega⟩)
    have hne : (⟨r, by omega⟩ : Fin 64) ≠ ⟨32 + r, by omega⟩ := fun e => by simpa using congrArg Fin.val e
    by_cases ha : (⟨r, by omega⟩ : Fin 64) = σ ⟨n, by omega⟩
    · have hb : (⟨32 + r, by omega⟩ : Fin 64) ≠ σ ⟨n, by omega⟩ := fun e => hne (ha.trans e.symm)
      have hle : h.left n ⟨32 + r, by omega⟩ ≤ h.left n ⟨r, by omega⟩ := by
        rw [ha, h.left_next]; exact h.left_le n _ _
      rw [max_eq_left hle, min_eq_right hle, h.left_succ_other n _ _ hb, ha, h.left_succ_next, h.left_next]
      simp
    · by_cases hb : (⟨32 + r, by omega⟩ : Fin 64) = σ ⟨n, by omega⟩
      · have hle : h.left n ⟨r, by omega⟩ ≤ h.left n ⟨32 + r, by omega⟩ := by
          rw [hb, h.left_next]; exact h.left_le n _ _
        rw [max_eq_right hle, min_eq_left hle, h.left_succ_other n _ _ ha, hb, h.left_succ_next, h.left_next]
        simp
      · have hno : ¬ st (σ ⟨n, by omega⟩) ≤ max (h.left n ⟨r, by omega⟩) (h.left n ⟨32 + r, by omega⟩) := by
          intro hm
          rcases le_max_iff.1 hm with hm | hm
          · exact ha (h.eq_of_left_ge n hn _ hm)
          · exact hb (h.eq_of_left_ge n hn _ hm)
        rw [if_neg hno, if_neg hno, h.left_succ_other n _ _ ha, h.left_succ_other n _ _ hb]
        exact ⟨rfl, rfl⟩
  unfold step
  rw [hS]
  exact Prod.ext (funext fun r => (key r).1) (funext fun r => (key r).2)

theorem iterate_start (n : ℕ) (hn : n ≤ 16) : step^[n] (start st) = h.pairs n := by
  induction n with
  | zero =>
    have : h.left 0 = st := funext fun k => if_neg fun ⟨j, hj, _⟩ => Nat.not_lt_zero _ hj
    show start st = start (h.left 0)
    rw [this]
  | succ n ih => rw [Function.iterate_succ_apply', ih (by omega), h.step_pairs n (by omega)]

/-- The search finds the scores in the order the listing gives them. -/
theorem found_eq (n : ℕ) (hn : n < 16) : found st n = st (σ ⟨n, by omega⟩) := by
  unfold found
  rw [h.iterate_start n (by omega), h.sup_pairs n (by omega)]

/-- A sum over the sixty-four keys that only counts those at or above the sixteenth score is one over the sixteen
    greatest. -/
theorem sum_kept (f : Fin 64 → EReal) :
    (∑ k, if st (σ ⟨15, by omega⟩) ≤ st k then f k else 0) = ∑ j : Fin 16, f (σ ⟨j, by omega⟩) := by
  rw [← h.bij.sum_comp]
  refine (Fin.sum_univ_add (a := 16) (b := 48) _).trans ?_
  have h0 : (∑ i : Fin 48, if st (σ ⟨15, by omega⟩) ≤ st (σ (Fin.natAdd 16 i)) then f (σ (Fin.natAdd 16 i)) else 0) = 0 :=
    Finset.sum_eq_zero fun i _ => if_neg (not_le.2 (h.lt_of_lt (by simp) (Fin.lt_def.2 (by simp; omega))))
  rw [h0, add_zero]
  refine Finset.sum_congr rfl fun i _ => ?_
  rw [if_pos]
  · rfl
  · rcases eq_or_lt_of_le (show i.val ≤ 15 by omega) with e | e
    · exact le_of_eq (congrArg (fun j => st (σ j)) (Fin.ext e.symm))
    · exact h.anti _ _ (Fin.lt_def.2 (by simpa using e))

end Listing

/-- The exponential is nowhere negative. -/
theorem exp_nonneg (x : EReal) : 0 ≤ Ideal.exp x := by
  induction x with
  | bot => exact le_refl _
  | top => exact le_top
  | coe r => exact EReal.coe_nonneg.2 (Real.exp_pos r).le

/-- THE QUERY: with the weights of all keys below the sixteenth score zero, dividing by the weights' sum before the
    product with the values gives the softmax of the sixteen greatest scores against the values they stand at. -/
theorem weighted {st : Fin 64 → EReal} {σ : Fin 64 → Fin 64} (h : Listing st σ) (htop : st (σ ⟨0, by omega⟩) < ⊤) (v : Fin 64 → EReal) :
    (∑ k, ((if found st 15 ≤ st k then Ideal.exp (st k - found st 0) else 0)
        * Ideal.div 1 (∑ k, if found st 15 ≤ st k then Ideal.exp (st k - found st 0) else 0)) * v k)
      = ∑ j : Fin 16, Ideal.div (Ideal.exp (st (σ ⟨j, by omega⟩) - st (σ ⟨0, by omega⟩)))
          (∑ j : Fin 16, Ideal.exp (st (σ ⟨j, by omega⟩) - st (σ ⟨0, by omega⟩))) * v (σ ⟨j, by omega⟩) := by
  rw [h.found_eq 15 (by omega), h.found_eq 0 (by omega), h.sum_kept]
  set S := ∑ j : Fin 16, Ideal.exp (st (σ ⟨j, by omega⟩) - st (σ ⟨0, by omega⟩)) with hS
  have hbot : ⊥ < st (σ ⟨0, by omega⟩) :=
    lt_of_le_of_lt bot_le (h.lt_of_lt (i := ⟨0, by omega⟩) (j := ⟨1, by omega⟩) (by norm_num) (Fin.lt_def.2 (by norm_num)))
  have hone : Ideal.exp (st (σ ⟨0, by omega⟩) - st (σ ⟨0, by omega⟩)) = 1 := by
    rw [EReal.sub_self htop.ne hbot.ne']
    show ((Real.exp 0 : ℝ) : EReal) = 1
    simp
  have hS0 : S ≠ 0 := by
    have h1 : (1 : EReal) ≤ S := by
      rw [← hone, hS]
      exact Finset.single_le_sum (f := fun j : Fin 16 => Ideal.exp (st (σ ⟨j, by omega⟩) - st (σ ⟨0, by omega⟩)))
        (fun j _ => exp_nonneg _) (Finset.mem_univ (0 : Fin 16))
    intro e
    rw [e] at h1
    exact absurd h1 (by norm_num)
  have hd : ∀ x : EReal, Ideal.div x S = x * S⁻¹ := fun x => if_neg hS0
  simp only [hd, one_mul]
  rw [← h.sum_kept fun k => Ideal.exp (st k - st (σ ⟨0, by omega⟩)) * S⁻¹ * v k]
  refine Finset.sum_congr rfl fun k _ => ?_
  split
  · rfl
  · rw [zero_mul, zero_mul]

end Cert.TopMath

end
-- ==== Proof.TileVal.lean ====
/- The tile's stages at an index, over the extended reals. -/
module

public import proofs.«01_k».proof.Proof.Tile
public import proofs.«01_k».proof.Proof.TopMath
public import Idealize.ShloMosaic.Lib.Pointwise

@[expose] public section

set_option maxRecDepth 16384

noncomputable section

namespace Cert.KernelIdeal.Tile

open Idealize.ShloMosaic Idealize.SL.Sem Cert.KernelIdeal Cert.KernelIdeal.Gen Cert.TopMath

/-- The lanes of one of the four heads of a lane group. -/
theorem lanes_at : ∀ (h : Fin 4) (i : Fin 64) (l : Fin 128),
    lanes (BitVec.ofNat 32 (32 * h.val)) (BitVec.ofNat 32 (32 * h.val + 32)) (ix2 i l) = if l.val / 32 = h.val then 1#1 else 0#1 := by
  intro h i l
  have key : ∀ (h : Fin 4) (l : Fin 128),
      IntOp.andi (IntOp.cmpi .sge (BitVec.ofNat 32 l.val) (BitVec.ofNat 32 (32 * h.val)))
        (IntOp.cmpi .slt (BitVec.ofNat 32 l.val) (BitVec.ofNat 32 (32 * h.val + 32))) = if l.val / 32 = h.val then 1#1 else 0#1 := by
    decide +kernel
  pointwise [lanes]
  exact key h l

/-- A sum over the lanes of one head only. -/
theorem sum_lanes (h : Fin 4) (f : Fin 128 → EReal) :
    (∑ d : Fin 128, if d.val / 32 = h.val then f d else 0) = ∑ d : Fin 32, f ⟨32 * h + d, by omega⟩ := by
  rw [Fin.sum_univ_tiles 4 32 rfl]
  rw [Finset.sum_eq_single h]
  · refine Finset.sum_congr rfl fun d _ => ?_
    rw [if_pos (by show (h.val * 32 + d.val) / 32 = h.val; omega)]
    exact congrArg f (Fin.ext (by show h.val * 32 + d.val = 32 * h.val + d.val; omega))
  · intro j _ hj
    refine Finset.sum_eq_zero fun d _ => ?_
    rw [if_neg]
    intro e
    exact hj (Fin.ext (by have : (j.val * 32 + d.val) / 32 = h.val := e; omega))
  · intro hh; exact absurd (Finset.mem_univ _) hh

theorem sum_heads (cp i : Fin 2) (f : Fin 128 → EReal) :
    (∑ d : Fin 128, if d.val / 32 = 2 * cp.val + i.val then f d else 0) = ∑ d : Fin 32, f ⟨64 * cp + 32 * i + d, by omega⟩ :=
  (sum_lanes ⟨2 * cp + i, by omega⟩ f).trans (Finset.sum_congr rfl fun d _ => congrArg f (Fin.ext (by
    show 32 * (2 * cp.val + i.val) + d.val = 64 * cp.val + 32 * i.val + d.val; omega)))

section Scores

variable {m₁ m₂ : IVec S64x128 1} {cp : Fin 2}
  (hm₁ : ∀ (i : Fin 64) (l : Fin 128), m₁ (ix2 i l) = if l.val / 32 = 2 * cp.val then 1#1 else 0#1)
  (hm₂ : ∀ (i : Fin 64) (l : Fin 128), m₂ (ix2 i l) = if l.val / 32 = 2 * cp.val + 1 then 1#1 else 0#1)

theorem select_if (p : Prop) [Decidable p] (x y : EReal) : Scalar.select (if p then 1#1 else 0#1) x y = if p then x else y := by
  by_cases h : p <;> simp [h, Scalar.select]

include hm₁ hm₂ in
/-- The score of a key for query `n` of head `i` of the pair. -/
theorem scores_at (b : FVec Ideal S1x64x128 .f32) (q k : FVec Ideal S64x128 .f32) (i : Fin 2) (n key : Fin 64) :
    scores m₁ m₂ b q k (ix2 key (⟨64 * i + n, by omega⟩ : Fin 128))
      = (∑ d : Fin 32, (q (ix2 n (⟨64 * cp + 32 * i + d, by omega⟩ : Fin 128)) * Ideal.ofBits .f32 0x3E3504F3#32)
          * k (ix2 key (⟨64 * cp + 32 * i + d, by omega⟩ : Fin 128))) + b (ix3 (0 : Fin 1) key (⟨64 * i + n, by omega⟩ : Fin 128)) := by
  pointwise [scores, packed]
  refine congrArg (· + b (ix3 (0 : Fin 1) key (⟨64 * i + n, by omega⟩ : Fin 128))) ?_
  rw [← sum_heads cp i fun d => (q (ix2 n d) * Ideal.ofBits .f32 0x3E3504F3#32) * k (ix2 key d)]
  refine Finset.sum_congr rfl fun d _ => ?_
  obtain ⟨i, hi⟩ := i
  obtain rfl | rfl : i = 0 ∨ i = 1 := by omega
  · have hn : (⟨64 * 0 + n.val, by omega⟩ : Fin 64) = n := Fin.ext (by simp)
    rw [dif_pos (show 64 * 0 + n.val < 64 by omega), hm₁, select_if, hn]
    simp only [Nat.add_zero]
    split_ifs
    · rfl
    · exact zero_mul _
  · have hn : (⟨64 * 1 + n.val - 64, by omega⟩ : Fin 64) = n := Fin.ext (by simp)
    rw [dif_neg (show ¬ 64 * 1 + n.val < 64 by omega), hm₂, select_if, hn]
    simp only
    split_ifs
    · rfl
    · exact zero_mul _

end Scores

/-- The greatest of 32 rows. -/
theorem top_at (x : FVec Ideal S32x128 .f32) (L : Fin 128) : top x (ix2 (0 : Fin 1) L) = Finset.univ.sup fun r : Fin 32 => x (ix2 r L) := by
  pointwise [top, halve1, halve2, halve4, quarters]
  apply le_antisymm
  · simp only [max_le_iff]
    refine ⟨⟨⟨⟨⟨?_, ?_⟩, ?_, ?_⟩, ⟨?_, ?_⟩, ?_, ?_⟩, ⟨⟨?_, ?_⟩, ?_, ?_⟩, ⟨?_, ?_⟩, ?_, ?_⟩,
      ⟨⟨⟨?_, ?_⟩, ?_, ?_⟩, ⟨?_, ?_⟩, ?_, ?_⟩, ⟨⟨?_, ?_⟩, ?_, ?_⟩, ⟨?_, ?_⟩, ?_, ?_⟩
    all_goals exact Finset.le_sup (f := fun r : Fin 32 => x (ix2 r L)) (Finset.mem_univ _)
  · refine Finset.sup_le fun r _ => ?_
    fin_cases r <;> simp only [le_max_iff, Fin.reduceFinMk, Fin.zero_eta, Fin.mk_one, Fin.isValue, le_refl, true_or, or_true]

theorem total_at (x : FVec Ideal S64x128 .f32) (L : Fin 128) : total x (ix2 (0 : Fin 1) L) = ∑ r : Fin 64, x (ix2 r L) := by
  pointwise [total, halve1, halve2, halve4]
  rw [Fin.sum_univ_tiles 8 8 rfl]
  simp only [Fin.sum_univ_eight]
  simp only [Fin.isValue, Fin.val_zero, Fin.val_one, Fin.val_two, Fin.coe_ofNat_eq_mod, Nat.reduceMod, Nat.reduceMul, Nat.reduceAdd, Fin.reduceFinMk, Fin.zero_eta, Fin.mk_one]
  abel

/-- One lane of a pair of lists. -/
def lanePair (p : FVec Ideal S32x128 .f32 × FVec Ideal S32x128 .f32) (L : Fin 128) : (Fin 32 → EReal) × (Fin 32 → EReal) :=
  (fun r => p.1 (ix2 r L), fun r => p.2 (ix2 r L))

theorem named_mask : Named.named (F := Ideal) (φ := .f32) κ "mask" 0xF149F2CA#32 = (⊥ : EReal) :=
  (IdealRules.named_const.statement κ "mask" .f32 0xF149F2CA#32 ⊥ rfl).2.2

theorem round_at (p : FVec Ideal S32x128 .f32 × FVec Ideal S32x128 .f32) (L : Fin 128) :
    lanePair (round p) L = TopMath.step (lanePair p L) := by
  unfold lanePair TopMath.step
  refine Prod.ext (funext fun r => ?_) (funext fun r => ?_)
  · pointwise [round, hit, top_at]
  · pointwise [round, hit, top_at]
    rw [named_mask]

theorem start_at (s : FVec Ideal S64x128 .f32) (L : Fin 128) :
    lanePair (start s) L = TopMath.start (fun k => s (ix2 k L)) := by
  unfold lanePair TopMath.start
  refine Prod.ext (funext fun r => ?_) (funext fun r => ?_)
  · pointwise [start]
  · pointwise [start]

theorem rounds_at (s : FVec Ideal S64x128 .f32) (L : Fin 128) (n : ℕ) :
    lanePair (rounds s n) L = TopMath.step^[n] (TopMath.start fun k => s (ix2 k L)) := by
  induction n with
  | zero => exact start_at s L
  | succ n ih => rw [Function.iterate_succ_apply', ← ih]; exact round_at _ L

theorem top_rounds (s : FVec Ideal S64x128 .f32) (L : Fin 128) (n : ℕ) :
    top (rounds s n).1 (ix2 (0 : Fin 1) L) = found (fun k => s (ix2 k L)) n := by
  rw [top_at]
  exact congrArg (fun p : (Fin 32 → EReal) × (Fin 32 → EReal) => Finset.univ.sup p.1) (rounds_at s L n)

theorem kept_at (s : FVec Ideal S64x128 .f32) (k : Fin 64) (L : Fin 128) :
    kept s (ix2 k L) = if found (fun k => s (ix2 k L)) 15 ≤ s (ix2 k L)
      then Ideal.exp (s (ix2 k L) - found (fun k => s (ix2 k L)) 0) else 0 := by
  pointwise [kept, top_rounds]

theorem weights_at (s : FVec Ideal S64x128 .f32) (k : Fin 64) (L : Fin 128) :
    weights s (ix2 L k) = kept s (ix2 k L) * Ideal.div 1 (∑ k : Fin 64, kept s (ix2 k L)) := by
  pointwise [weights, total_at]

/-- A head's output from its scores and values, where the scores of its query are listed by `σ`. -/
theorem weighted_at (s v : FVec Ideal S64x128 .f32) (L l : Fin 128) (st : Fin 64 → EReal) (hs : ∀ k, s (ix2 k L) = st k)
    {σ : Fin 64 → Fin 64} (h : Listing st σ) (htop : st (σ ⟨0, by omega⟩) < ⊤) :
    (∑ k : Fin 64, weights s (ix2 L k) * v (ix2 k l))
      = ∑ j : Fin 16, Ideal.div (Ideal.exp (st (σ ⟨j, by omega⟩) - st (σ ⟨0, by omega⟩)))
          (∑ j : Fin 16, Ideal.exp (st (σ ⟨j, by omega⟩) - st (σ ⟨0, by omega⟩))) * v (ix2 (σ ⟨j, by omega⟩) l) := by
  obtain rfl : (fun k => s (ix2 k L)) = st := funext hs
  rw [← weighted h htop fun k => v (ix2 k l)]
  refine Finset.sum_congr rfl fun k _ => ?_
  rw [weights_at]
  simp only [kept_at]

section Mixed

variable {m₁ m₂ : IVec S64x128 1} {cp : Fin 2}
  (hm₁ : ∀ (i : Fin 64) (l : Fin 128), m₁ (ix2 i l) = if l.val / 32 = 2 * cp.val then 1#1 else 0#1)
  (hm₂ : ∀ (i : Fin 64) (l : Fin 128), m₂ (ix2 i l) = if l.val / 32 = 2 * cp.val + 1 then 1#1 else 0#1)

include hm₁ hm₂ in
/-- Lane `32 i + d` of the pair's 64 lanes holds head `i`'s output. -/
theorem mixed_at (s v : FVec Ideal S64x128 .f32) (n : Fin 64) (i : Fin 2) (d : Fin 32) :
    mixed m₁ m₂ s v (ix2 n (⟨64 * cp + 32 * i + d, by omega⟩ : Fin 128))
      = ∑ k : Fin 64, weights s (ix2 (⟨64 * i + n, by omega⟩ : Fin 128) k) * v (ix2 k (⟨64 * cp + 32 * i + d, by omega⟩ : Fin 128)) := by
  pointwise [mixed]
  rw [hm₁, hm₂, select_if, select_if]
  obtain ⟨i, hi⟩ := i
  obtain rfl | rfl : i = 0 ∨ i = 1 := by omega
  · rw [if_pos (show (64 * cp.val + 32 * 0 + d.val) / 32 = 2 * cp.val by omega)]
    rw [show (⟨n.val, by omega⟩ : Fin 128) = ⟨64 * 0 + n.val, by omega⟩ from Fin.ext (by simp)]
  · rw [if_neg (show ¬ (64 * cp.val + 32 * 1 + d.val) / 32 = 2 * cp.val by omega),
      if_pos (show (64 * cp.val + 32 * 1 + d.val) / 32 = 2 * cp.val + 1 by omega)]
    rw [show (⟨64 + n.val, by omega⟩ : Fin 128) = ⟨64 * 1 + n.val, by omega⟩ from Fin.ext (by simp)]

include hm₁ hm₂ in
/-- The other pair's lanes hold zero. -/
theorem mixed_off (s v : FVec Ideal S64x128 .f32) (n : Fin 64) (l : Fin 128) (hl : l.val / 64 ≠ cp.val) :
    mixed m₁ m₂ s v (ix2 n l) = 0 := by
  pointwise [mixed]
  rw [hm₁, hm₂, select_if, select_if, if_neg (by omega), if_neg (by omega)]

end Mixed

end Cert.KernelIdeal.Tile

end
-- ==== Proof.SortRow.lean ====
/- What the top-k operation returns along a row of sixty-four scores: the scores in the order of the row's descending
   sort, and the positions they stand at. -/
module

public import Idealize.ShloMosaic.Lib.Pointwise
public import Idealize.ShloMosaic.Lib.SortFacts
public import proofs.«01_k».proof.Proof.TopMath

@[expose] public section

noncomputable section

namespace Cert.TopMath

open Idealize.ShloMosaic

/-- The position of the `k`-th score in a row's descending sort. -/
def order (row : Fin 64 → EReal) : Fin 64 → Fin 64 :=
  sortedFrom fun k k' => Ideal.cmpTotal .gt (row k) (row k') == 1#1

theorem before_iff (x y : EReal) : (Ideal.cmpTotal .gt x y == 1#1) = decide (y < x) := by
  unfold Ideal.cmpTotal Ideal.cmp CmpDirection.ordered
  by_cases h : y < x <;> simp [h]

theorem order_bijective (row : Fin 64 → EReal) : Function.Bijective (order row) :=
  ⟨sortedFrom_injective _, sortedFrom_surjective _⟩

theorem order_anti (row : Fin 64 → EReal) (i j : Fin 64) (hij : i < j) : row (order row j) ≤ row (order row i) := by
  have := sortedFrom_noInversion (n := 64) (fun k k' => Ideal.cmpTotal .gt (row k) (row k') == 1#1)
    (fun k k' => Ideal.cmpTotal .gt (row k) (row k') == 1#1)
    (by intro a b h; rw [before_iff] at h ⊢; simpa using le_of_lt (by simpa using h))
    (fun a b h => h)
    (by intro a b c h h'; rw [before_iff] at h h' ⊢; simp only [decide_eq_false_iff_not, not_lt] at h h' ⊢; exact le_trans h h')
    i j hij
  rw [before_iff] at this
  simpa [order] using this

section Ops

variable {A B C n : ℕ}

theorem along_last (a : Fin A) (b : Fin B) (c : Fin C) (k k' : Fin 64) :
    Shape.Idx.along (s := ⟨4, ![A, B, C, 64]⟩) (ix4 a b c k) 3 k' = ix4 a b c k' := by
  funext i
  fin_cases i <;> rfl

theorem along_self (a : Fin A) (b : Fin B) (c : Fin C) (k k' : Fin 64) :
    (iotaInDim (⟨4, ![A, B, C, 64]⟩ : Shape) 32 3) (Shape.Idx.along (s := ⟨4, ![A, B, C, 64]⟩) (ix4 a b c k) 3 k') = BitVec.ofNat 32 k'.val := by
  rw [along_last]
  rfl

/-- The values the top-k operation returns. -/
theorem topK_vals (x : FVec Ideal (⟨4, ![A, B, C, 64]⟩ : Shape) .f32) (hs) (hn : n ≤ 64) (a : Fin A) (b : Fin B) (c : Fin C) (j : Fin n) :
    (Host.topK (⟨4, ![A, B, C, n]⟩ : Shape) 3 (FloatOps.cmpfTotal (F := Ideal) (φ := .f32) .gt) x hs).1 (ix4 a b c j)
      = x (ix4 a b c (order (fun k => x (ix4 a b c k)) ⟨j, by omega⟩)) := by
  have hi : (fun i => ⟨0 + (ix4 a b c j (Fin.cast hs.1.symm i)).val, Nat.lt_of_lt_of_le (Nat.add_lt_add_left (ix4 a b c j _).isLt _) (hs.2 i)⟩
      : (⟨4, ![A, B, C, 64]⟩ : Shape).Idx) = ix4 a b c ⟨j, by omega⟩ := by
    funext i; fin_cases i <;> exact Fin.ext (Nat.zero_add _)
  unfold Host.topK Host.sort2
  simp only [extractStridedSlice]
  rw [dif_pos (show 3 < (⟨4, ![A, B, C, 64]⟩ : Shape).rank from Nat.lt_succ_self 3), hi]
  exact (congrArg x (along_last a b c _ _)).trans (congrArg (fun f => x (ix4 a b c (sortedFrom (n := 64) f ⟨j, by omega⟩)))
    (funext fun k => funext fun k' => congrArg₂ (fun u w => Ideal.cmpTotal .gt u w == 1#1)
      (congrArg x (along_last a b c _ k)) (congrArg x (along_last a b c _ k'))))

/-- The positions it returns. -/
theorem topK_idx (x : FVec Ideal (⟨4, ![A, B, C, 64]⟩ : Shape) .f32) (hs) (hn : n ≤ 64) (a : Fin A) (b : Fin B) (c : Fin C) (j : Fin n) :
    (Host.topK (⟨4, ![A, B, C, n]⟩ : Shape) 3 (FloatOps.cmpfTotal (F := Ideal) (φ := .f32) .gt) x hs).2 (ix4 a b c j)
      = BitVec.ofNat 32 (order (fun k => x (ix4 a b c k)) ⟨j, by omega⟩).val := by
  have hi : (fun i => ⟨0 + (ix4 a b c j (Fin.cast hs.1.symm i)).val, Nat.lt_of_lt_of_le (Nat.add_lt_add_left (ix4 a b c j _).isLt _) (hs.2 i)⟩
      : (⟨4, ![A, B, C, 64]⟩ : Shape).Idx) = ix4 a b c ⟨j, by omega⟩ := by
    funext i; fin_cases i <;> exact Fin.ext (Nat.zero_add _)
  unfold Host.topK Host.sort2
  simp only [extractStridedSlice]
  rw [dif_pos (show 3 < (⟨4, ![A, B, C, 64]⟩ : Shape).rank from Nat.lt_succ_self 3), hi]
  exact (along_self a b c _ _).trans (congrArg (fun f => BitVec.ofNat 32 (sortedFrom (n := 64) f ⟨j, by omega⟩).val)
    (funext fun k => funext fun k' => congrArg₂ (fun u w => Ideal.cmpTotal .gt u w == 1#1)
      (congrArg x (along_last a b c _ k)) (congrArg x (along_last a b c _ k'))))

end Ops

/-- A row whose first seventeen sorted scores are strictly decreasing is listed by its sort. -/
theorem order_listing (row : Fin 64 → EReal)
    (h : ∀ j : Fin 16, row (order row ⟨j.val + 1, by omega⟩) < row (order row ⟨j, by omega⟩)) : Listing row (order row) where
  bij := order_bijective row
  anti := order_anti row
  strict i j hi hj := by
    have := h ⟨i, hi⟩
    rwa [show j = ⟨i.val + 1, by omega⟩ from Fin.ext hj]

end Cert.TopMath

end
-- ==== Proof.Spec.lean ====
/- The computation both programs are compared with: projected input, scores, weighted values and output, each as a
   function of the argument arrays and of its indices. -/
module

public import proofs.«01_k».proof.Proof.SortRow

@[expose] public section

noncomputable section

namespace Cert.Spec

open Idealize.ShloMosaic Cert.TopMath

variable (X : FVec Ideal (⟨3, ![1024, 64, 384]⟩ : Shape) .f32) (W : FVec Ideal (⟨2, ![384, 1152]⟩ : Shape) .f32)
  (B : FVec Ideal (⟨1, ![1152]⟩ : Shape) .f32) (R : FVec Ideal (⟨2, ![4096, 12]⟩ : Shape) .f32)
  (W' : FVec Ideal (⟨2, ![384, 384]⟩ : Shape) .f32) (B' : FVec Ideal (⟨1, ![384]⟩ : Shape) .f32)

/-- The projected input of window `b` at row `n`, column `c`. -/
def proj (b : Fin 1024) (n : Fin 64) (c : Fin 1152) : EReal := (∑ k : Fin 384, X (ix3 b n k) * W (ix2 k c)) + B (ix1 c)

/-- Lane `d` of head `h` among the columns of role `r` (query, key, value). -/
def lane (r : Fin 3) (h : Fin 12) (d : Fin 32) : Fin 1152 := ⟨384 * r + (32 * h + d), by omega⟩

/-- The score of key `k` for query `n` in head `h` of window `b`, with `R` the bias rows. -/
def score (b : Fin 1024) (h : Fin 12) (n k : Fin 64) : EReal :=
  (∑ d : Fin 32, (proj X W B b n (lane 0 h d) * Ideal.ofBits .f32 0x3E3504F3#32) * proj X W B b k (lane 1 h d))
    + R (ix2 (⟨64 * n + k, by omega⟩ : Fin 4096) h)

/-- The `j`-th greatest score's key. -/
def pick (b : Fin 1024) (h : Fin 12) (n : Fin 64) (j : Fin 16) : Fin 64 := order (score X W B R b h n) ⟨j, by omega⟩

/-- The output of head `h` for query `n`, lane `d`: the values at the sixteen greatest scores, weighted. -/
def head (b : Fin 1024) (h : Fin 12) (n : Fin 64) (d : Fin 32) : EReal :=
  ∑ j : Fin 16,
    Ideal.div (Ideal.exp (score X W B R b h n (pick X W B R b h n j) - score X W B R b h n (pick X W B R b h n 0)))
      (∑ j : Fin 16, Ideal.exp (score X W B R b h n (pick X W B R b h n j) - score X W B R b h n (pick X W B R b h n 0)))
      * proj X W B b (pick X W B R b h n j) (lane 2 h d)

/-- Column `c` of the result at row `n` of window `b`. -/
def out (b : Fin 1024) (n : Fin 64) (c : Fin 384) : EReal :=
  (∑ l : Fin 384, head X W B R b ⟨l / 32, by omega⟩ n ⟨l % 32, by omega⟩ * W' (ix2 l c)) + B' (ix1 c)

/-- The scores of every row are strictly decreasing down to the seventeenth, and the greatest is finite above. -/
def Distinct : Prop := ∀ b h n, (∀ j : Fin 16,
    score X W B R b h n (order (score X W B R b h n) ⟨j.val + 1, by omega⟩) < score X W B R b h n (order (score X W B R b h n) ⟨j, by omega⟩))
  ∧ score X W B R b h n (order (score X W B R b h n) ⟨0, by omega⟩) < ⊤

end Cert.Spec

end
-- ==== Proof.Acc.lean ====
/- What the body's stores leave in its accumulator: each head's output in its own lanes, from the store that adds it on. -/
module

public import proofs.«01_k».proof.Proof.TileVal
public import proofs.«01_k».proof.Proof.Spec
public import Idealize.ShloMosaic.Lib.Pipeline.ValueKit

@[expose] public section

set_option maxRecDepth 16384

noncomputable section

namespace Cert.KernelIdeal.Tile

open Idealize.ShloMosaic Idealize.SL.Sem Cert.KernelIdeal Cert.KernelIdeal.Gen Cert.TopMath Cert.Spec

theorem lanes_first (cp : Fin 2) (i : Fin 64) (l : Fin 128) :
    lanes (BitVec.ofNat 32 (64 * cp.val)) (BitVec.ofNat 32 (64 * cp.val + 32)) (ix2 i l) = if l.val / 32 = 2 * cp.val then 1#1 else 0#1 := by
  have := lanes_at ⟨2 * cp.val, by omega⟩ i l
  rwa [show 32 * (2 * cp.val) = 64 * cp.val by omega] at this

theorem lanes_second (cp : Fin 2) (i : Fin 64) (l : Fin 128) :
    lanes (BitVec.ofNat 32 (64 * cp.val + 32)) (BitVec.ofNat 32 (64 * cp.val + 64)) (ix2 i l) = if l.val / 32 = 2 * cp.val + 1 then 1#1 else 0#1 := by
  have := lanes_at ⟨2 * cp.val + 1, by omega⟩ i l
  rwa [show 32 * (2 * cp.val + 1) = 64 * cp.val + 32 by omega, show 64 * cp.val + 32 + 32 = 64 * cp.val + 64 by omega] at this

theorem place_emb (n : Nat) (q : Fin 64) (l : Fin 128) :
    (place n).emb (ix2 q l : S64x128.Idx) = (ix2 (⟨64 * (n % 4) + q, by omega⟩ : Fin 256) (⟨128 * (n / 8 % 3) + l, by omega⟩ : Fin 384) : S256x384.Idx) := by
  funext a
  fin_cases a <;> exact Fin.ext ((ValueKit.rect_emb_unit_val _ _ _ _ _).trans (by simp))

theorem source_emb (n : Nat) (off : Fin 3) (q : Fin 64) (l : Fin 128) :
    (source n off).emb (ix2 q l : S64x128.Idx)
      = (ix2 (⟨64 * (n % 4) + q, by omega⟩ : Fin 256) (⟨128 * (n / 8 % 3) + 384 * off.val + l, by omega⟩ : Fin 1152) : S256x1152.Idx) := by
  funext a
  fin_cases a <;> exact Fin.ext ((ValueKit.rect_emb_unit_val _ _ _ _ _).trans (by simp))

theorem pair_emb (n : Nat) (k : Fin 64) (l : Fin 128) :
    (pair n).emb (ix3 (0 : Fin 1) k l : S1x64x128.Idx) = (ix3 (⟨n / 4 % 6, by omega⟩ : Fin 6) k l : S6x64x128.Idx) := by
  funext a
  fin_cases a <;> exact Fin.ext ((ValueKit.rect_emb_unit_val _ _ _ _ _).trans (by simp))

theorem tile_at (m₁ m₂ : IVec S64x128 1) (b : FVec Ideal S1x64x128 .f32) (q k v acc : FVec Ideal S64x128 .f32) (i : Fin 64) (l : Fin 128) :
    tile m₁ m₂ b q k v acc (ix2 i l) = acc (ix2 i l) + mixed m₁ m₂ (scores m₁ m₂ b q k) v (ix2 i l) := by
  pointwise [tile]

theorem row_lt (w : Fin 4) (n : Fin 64) : 64 * w.val + n.val < 256 := by omega
theorem lane_lt (i : Fin 2) (n : Fin 64) : 64 * i.val + n.val < 128 := by omega
theorem pair_lt (n k : Fin 64) : 64 * n.val + k.val < 4096 := by omega
theorem head_lt (p : Fin 6) (i : Fin 2) : 2 * p.val + i.val < 12 := by omega

section Stores

variable (c : Dev nD) (arg1 : Memref sig .tc .vmem S256x384 .f32) (harg1 : arg1.IsWhole) (arg2 : Memref sig .tc .vmem S384x1152 .f32)
  (harg2 : arg2.IsWhole) (arg3 : Memref sig .tc .vmem S1x1152 .f32) (harg3 : arg3.IsWhole) (arg4 : Memref sig .tc .vmem S6x64x128 .f32)
  (harg4 : arg4.IsWhole) (arg8 : Memref sig .tc .vmem S256x1152 .f32) (arg9 : Memref sig .tc .vmem S256x384 .f32)
  (x0 : Vec Ideal S256x384 .f32) (x1 : Vec Ideal S384x1152 .f32) (x2 : Vec Ideal S1x1152 .f32) (x3 : Vec Ideal S6x64x128 .f32)

/-- The block of projected input. -/
theorem projected (r : Fin 256) (l : Fin 1152) :
    View.canon (kernelRun0_A.sl.HS0_1 (F := Ideal) c arg1 harg1 arg2 harg2 arg3 harg3 x0 x1 x2) (ix2 r l : S256x1152.Idx)
      = (∑ k : Fin 384, (x0 : FVec Ideal S256x384 .f32) (ix2 r k) * (x1 : FVec Ideal S384x1152 .f32) (ix2 k l)) + (x2 : FVec Ideal S1x1152 .f32) (ix2 (0 : Fin 1) l) := by
  frame_out
  pointwise [k0_pay3]

variable {X : FVec Ideal (⟨3, ![1024, 64, 384]⟩ : Shape) .f32} {W : FVec Ideal (⟨2, ![384, 1152]⟩ : Shape) .f32}
  {B : FVec Ideal (⟨1, ![1152]⟩ : Shape) .f32} {R : FVec Ideal (⟨2, ![4096, 12]⟩ : Shape) .f32} (win : Fin 4 → Fin 1024)
  (hP : ∀ (w : Fin 4) (n : Fin 64) (l : Fin 1152),
    View.canon (kernelRun0_A.sl.HS0_1 (F := Ideal) c arg1 harg1 arg2 harg2 arg3 harg3 x0 x1 x2) (ix2 (⟨64 * w + n, row_lt w n⟩ : Fin 256) l : S256x1152.Idx)
      = proj X W B (win w) n l)
  (hR : ∀ (p : Fin 6) (k : Fin 64) (i : Fin 2) (n : Fin 64), (x3 : FVec Ideal S6x64x128 .f32) (ix3 p k (⟨64 * i + n, lane_lt i n⟩ : Fin 128))
    = R (ix2 (⟨64 * n + k, pair_lt n k⟩ : Fin 4096) (⟨2 * p + i, head_lt p i⟩ : Fin 12)))
  (hD : Distinct X W B R)

include hP hR hD in
/-- What store `n` adds: its two heads' outputs in its own lanes, zero in the others. -/
theorem added (n : Nat) (hn : n < 24) (q : Fin 64) (cp i : Fin 2) (d : Fin 32) :
    mixed (lanes (BitVec.ofNat 32 (64 * (n / 4 % 2))) (BitVec.ofNat 32 (64 * (n / 4 % 2) + 32)))
        (lanes (BitVec.ofNat 32 (64 * (n / 4 % 2) + 32)) (BitVec.ofNat 32 (64 * (n / 4 % 2) + 64)))
        (scores (F := Ideal) (lanes (BitVec.ofNat 32 (64 * (n / 4 % 2))) (BitVec.ofNat 32 (64 * (n / 4 % 2) + 32)))
          (lanes (BitVec.ofNat 32 (64 * (n / 4 % 2) + 32)) (BitVec.ofNat 32 (64 * (n / 4 % 2) + 64)))
          (View.readAt (Elt Ideal) arg4.view (pair n).toLoadRect (harg4.unread x3))
          (arg8.view.readCov (kernelRun0_A.sl.HS0_1 c arg1 harg1 arg2 harg2 arg3 harg3 x0 x1 x2) (source n 0).toLoadRect)
          (arg8.view.readCov (kernelRun0_A.sl.HS0_1 c arg1 harg1 arg2 harg2 arg3 harg3 x0 x1 x2) (source n 1).toLoadRect))
        (arg8.view.readCov (kernelRun0_A.sl.HS0_1 c arg1 harg1 arg2 harg2 arg3 harg3 x0 x1 x2) (source n 2).toLoadRect)
        (ix2 q (⟨64 * cp + 32 * i + d, by omega⟩ : Fin 128))
      = if n / 4 % 2 = cp.val then head X W B R (win ⟨n % 4, by omega⟩) (⟨4 * (n / 8) + 2 * cp + i, by omega⟩ : Fin 12) q d else 0 := by
  set m₁ := lanes (BitVec.ofNat 32 (64 * (n / 4 % 2))) (BitVec.ofNat 32 (64 * (n / 4 % 2) + 32)) with hm1
  set m₂ := lanes (BitVec.ofNat 32 (64 * (n / 4 % 2) + 32)) (BitVec.ofNat 32 (64 * (n / 4 % 2) + 64)) with hm2
  have h₁ : ∀ (i : Fin 64) (l : Fin 128), m₁ (ix2 i l) = if l.val / 32 = 2 * (⟨n / 4 % 2, by omega⟩ : Fin 2).val then 1#1 else 0#1 :=
    lanes_first ⟨n / 4 % 2, by omega⟩
  have h₂ : ∀ (i : Fin 64) (l : Fin 128), m₂ (ix2 i l) = if l.val / 32 = 2 * (⟨n / 4 % 2, by omega⟩ : Fin 2).val + 1 then 1#1 else 0#1 :=
    lanes_second ⟨n / 4 % 2, by omega⟩
  have hsrc : ∀ (off : Fin 3) (k : Fin 64) (i : Fin 2) (d : Fin 32),
      (show FVec Ideal S64x128 .f32 from arg8.view.readCov (kernelRun0_A.sl.HS0_1 (F := Ideal) c arg1 harg1 arg2 harg2 arg3 harg3 x0 x1 x2) (source n off).toLoadRect)
        (ix2 k (⟨64 * (n / 4 % 2) + 32 * i + d, by omega⟩ : Fin 128))
      = proj X W B (win ⟨n % 4, by omega⟩) k (lane off ⟨4 * (n / 8) + 2 * (n / 4 % 2) + i, by omega⟩ d) := by
    intro off k i d
    rw [View.readCov_eq_canon']
    refine Eq.trans ?_ (hP ⟨n % 4, by omega⟩ k _)
    refine congrArg (View.canon _) ((source_emb n off k _).trans ?_)
    refine (ix2_inj ..).2 ⟨rfl, Fin.ext ?_⟩
    show 128 * (n / 8 % 3) + 384 * off.val + (64 * (n / 4 % 2) + 32 * i.val + d.val) = 384 * off.val + (32 * (4 * (n / 8) + 2 * (n / 4 % 2) + i.val) + d.val)
    omega
  have hb : ∀ (k : Fin 64) (i : Fin 2) (q : Fin 64),
      (show FVec Ideal S1x64x128 .f32 from View.readAt (Elt Ideal) arg4.view (pair n).toLoadRect (harg4.unread x3)) (ix3 (0 : Fin 1) k (⟨64 * i + q, by omega⟩ : Fin 128))
      = R (ix2 (⟨64 * q + k, by omega⟩ : Fin 4096) (⟨4 * (n / 8) + 2 * (n / 4 % 2) + i, by omega⟩ : Fin 12)) := by
    intro k i q
    rw [View.readAt_eq_ld, Memref.IsWhole.read_unread]
    refine (congrArg x3 (pair_emb n k _)).trans ((hR _ k i q).trans ?_)
    refine congrArg R ((ix2_inj ..).2 ⟨rfl, Fin.ext ?_⟩)
    show 2 * (n / 4 % 6) + i.val = 4 * (n / 8) + 2 * (n / 4 % 2) + i.val
    omega
  by_cases hc : n / 4 % 2 = cp.val
  · rw [if_pos hc]
    obtain ⟨cp, hcp⟩ := cp
    have hc' : n / 4 % 2 = cp := hc
    subst hc'
    refine (mixed_at h₁ h₂ _ _ q i d).trans ?_
    have hl : Listing (score X W B R (win ⟨n % 4, by omega⟩) (⟨4 * (n / 8) + 2 * (n / 4 % 2) + i, by omega⟩ : Fin 12) q)
        (order (score X W B R (win ⟨n % 4, by omega⟩) (⟨4 * (n / 8) + 2 * (n / 4 % 2) + i, by omega⟩ : Fin 12) q)) :=
      order_listing _ (hD _ _ _).1
    refine (weighted_at _ _ _ _ (score X W B R (win ⟨n % 4, by omega⟩) (⟨4 * (n / 8) + 2 * (n / 4 % 2) + i, by omega⟩ : Fin 12) q)
      (fun k => ?_) hl (hD _ _ _).2).trans ?_
    · refine (scores_at h₁ h₂ _ _ _ i q k).trans ?_
      refine congrArg₂ (· + ·) (Finset.sum_congr rfl fun d _ => ?_) (hb k i q)
      exact congrArg₂ (· * ·) (congrArg (· * Ideal.ofBits .f32 0x3E3504F3#32) (hsrc 0 q i d)) (hsrc 1 k i d)
    · refine Finset.sum_congr rfl fun j _ => ?_
      exact congrArg₂ (· * ·) rfl (hsrc 2 _ i d)
  · rw [if_neg hc]
    refine mixed_off h₁ h₂ _ _ q _ ?_
    show (64 * cp.val + 32 * i.val + d.val) / 64 ≠ n / 4 % 2
    omega

include hP hR hD in
/-- After `n` stores a lane holds its head's output when its own store is among them, and zero otherwise. -/
theorem acc_at (n : Nat) (hn : n ≤ 24) (w : Fin 4) (q : Fin 64) (g : Fin 3) (cp i : Fin 2) (d : Fin 32) :
    View.canon (stores (F := Ideal) c arg1 harg1 arg2 harg2 arg3 harg3 arg4 harg4 arg8 arg9 x0 x1 x2 x3 n)
        (ix2 (⟨64 * w + q, by omega⟩ : Fin 256) (⟨128 * g + (64 * cp + 32 * i + d), by omega⟩ : Fin 384) : S256x384.Idx)
      = if 8 * g.val + 4 * cp.val + w.val < n then head X W B R (win w) (⟨4 * g + 2 * cp + i, by omega⟩ : Fin 12) q d else (0 : EReal) := by
  induction n with
  | zero =>
    rw [if_neg (Nat.not_lt_zero _)]
    unfold stores
    rw [View.canon_cons_unit_lit' (h := by decide)]
    pointwise [k0_pay4]
  | succ n ih =>
    have ih := ih (by omega)
    unfold stores
    by_cases hin : n % 4 = w.val ∧ n / 8 % 3 = g.val
    · have hy : (ix2 (⟨64 * w + q, by omega⟩ : Fin 256) (⟨128 * g + (64 * cp + 32 * i + d), by omega⟩ : Fin 384) : S256x384.Idx)
          = (place n).emb (ix2 q (⟨64 * cp + 32 * i + d, by omega⟩ : Fin 128) : S64x128.Idx) := by
        rw [place_emb]
        exact (ix2_inj ..).2 ⟨Fin.ext (by show 64 * w.val + q.val = 64 * (n % 4) + q.val; omega),
          Fin.ext (by show 128 * g.val + (64 * cp.val + 32 * i.val + d.val) = 128 * (n / 8 % 3) + (64 * cp.val + 32 * i.val + d.val); omega)⟩
      rw [hy] at ih ⊢
      refine (View.canon_cons_emb _ _ _ _).trans ((tile_at _ _ _ _ _ _ _ _ _).trans ?_)
      rw [added c arg1 harg1 arg2 harg2 arg3 harg3 arg4 harg4 arg8 x0 x1 x2 x3 win hP hR hD n (by omega) q cp i d]
      rw [View.readCov_eq_canon']
      refine (congrArg (· + _) ih).trans ?_
      have hw : (⟨n % 4, by omega⟩ : Fin 4) = w := Fin.ext hin.1
      by_cases hc : n / 4 % 2 = cp.val
      · rw [if_neg (show ¬ 8 * g.val + 4 * cp.val + w.val < n by omega), if_pos hc, if_pos (show 8 * g.val + 4 * cp.val + w.val < n + 1 by omega), hw]
        refine (zero_add _).trans ?_
        exact congrArg (fun h => head X W B R (win w) h q d) (Fin.ext (by show 4 * (n / 8) + 2 * cp.val + i.val = 4 * g.val + 2 * cp.val + i.val; omega))
      · rw [if_neg hc]
        refine (add_zero _).trans ?_
        exact if_congr (by omega) rfl rfl
    · refine (View.canon_cons_of_not_mem _ _ ?_).trans (ih.trans (if_congr (by omega) rfl rfl))
      intro hmem
      obtain ⟨x, hx⟩ := LoadRect.exists_idx_of_mem (place n).toLoadRect hmem
      refine hin ?_
      rw [eq_ix2 (x : S64x128.Idx)] at hx
      have e := (place_emb n (x 0) (x 1)).symm.trans hx
      have e0 := congrArg Fin.val ((ix2_inj ..).1 e).1
      have e1 := congrArg Fin.val ((ix2_inj ..).1 e).2
      have b0 : (x 0).val < 64 := (x 0).isLt
      have b1 : (x 1).val < 128 := (x 1).isLt
      simp only at e0 e1
      omega

end Stores

/-- After every store each lane holds its head's output. -/
theorem acc_all (c : Dev nD) (arg1 : Memref sig .tc .vmem S256x384 .f32) (harg1 : arg1.IsWhole) (arg2 : Memref sig .tc .vmem S384x1152 .f32)
    (harg2 : arg2.IsWhole) (arg3 : Memref sig .tc .vmem S1x1152 .f32) (harg3 : arg3.IsWhole) (arg4 : Memref sig .tc .vmem S6x64x128 .f32)
    (harg4 : arg4.IsWhole) (arg8 : Memref sig .tc .vmem S256x1152 .f32) (arg9 : Memref sig .tc .vmem S256x384 .f32)
    (x0 : Vec Ideal S256x384 .f32) (x1 : Vec Ideal S384x1152 .f32) (x2 : Vec Ideal S1x1152 .f32) (x3 : Vec Ideal S6x64x128 .f32)
    {X : FVec Ideal ⟨3, ![1024, 64, 384]⟩ .f32} {W : FVec Ideal ⟨2, ![384, 1152]⟩ .f32} {B : FVec Ideal ⟨1, ![1152]⟩ .f32}
    {R : FVec Ideal ⟨2, ![4096, 12]⟩ .f32} (win : Fin 4 → Fin 1024)
    (hP : ∀ (w : Fin 4) (n : Fin 64) (l : Fin 1152),
      View.canon (kernelRun0_A.sl.HS0_1 (F := Ideal) c arg1 harg1 arg2 harg2 arg3 harg3 x0 x1 x2) (ix2 (⟨64 * w + n, by omega⟩ : Fin 256) l : S256x1152.Idx)
        = proj X W B (win w) n l)
    (hR : ∀ (p : Fin 6) (k : Fin 64) (i : Fin 2) (n : Fin 64), (x3 : FVec Ideal S6x64x128 .f32) (ix3 p k (⟨64 * i + n, by omega⟩ : Fin 128))
      = R (ix2 (⟨64 * n + k, by omega⟩ : Fin 4096) (⟨2 * p + i, by omega⟩ : Fin 12)))
    (hD : Distinct X W B R) (w : Fin 4) (q : Fin 64) (l : Fin 384) :
    View.canon (stores (F := Ideal) c arg1 harg1 arg2 harg2 arg3 harg3 arg4 harg4 arg8 arg9 x0 x1 x2 x3 24)
        (ix2 (⟨64 * w + q, by omega⟩ : Fin 256) l : S256x384.Idx)
      = head X W B R (win w) (⟨l / 32, by omega⟩ : Fin 12) q (⟨l % 32, by omega⟩ : Fin 32) := by
  have h := acc_at c arg1 harg1 arg2 harg2 arg3 harg3 arg4 harg4 arg8 arg9 x0 x1 x2 x3 win hP hR hD 24 (Nat.le_refl _) w q
    ⟨l / 128, by omega⟩ ⟨l / 64 % 2, by omega⟩ ⟨l / 32 % 2, by omega⟩ ⟨l % 32, by omega⟩
  rw [if_pos (by show 8 * (l.val / 128) + 4 * (l.val / 64 % 2) + w.val < 24; omega)] at h
  have e1 : (⟨128 * (l.val / 128) + (64 * (l.val / 64 % 2) + 32 * (l.val / 32 % 2) + l.val % 32), by omega⟩ : Fin 384) = l := Fin.ext (by show 128 * (l.val / 128) + (64 * (l.val / 64 % 2) + 32 * (l.val / 32 % 2) + l.val % 32) = l.val; omega)
  have e2 : (⟨4 * (l.val / 128) + 2 * (l.val / 64 % 2) + l.val / 32 % 2, by omega⟩ : Fin 12) = ⟨l.val / 32, by omega⟩ := Fin.ext (by show 4 * (l.val / 128) + 2 * (l.val / 64 % 2) + l.val / 32 % 2 = l.val / 32; omega)
  exact (congrArg (fun l' => View.canon (stores (F := Ideal) c arg1 harg1 arg2 harg2 arg3 harg3 arg4 harg4 arg8 arg9 x0 x1 x2 x3 24) (ix2 (⟨64 * w + q, by omega⟩ : Fin 256) l' : S256x384.Idx)) e1).symm.trans
    (h.trans (congrArg (fun h' => head X W B R (win w) h' q (⟨l % 32, by omega⟩ : Fin 32)) e2))

end Cert.KernelIdeal.Tile

end
-- ==== Proof.KerVal.lean ====
/- The kernel's result array over the extended reals. -/
module

public import proofs.«01_k».proof.Proof.Stores
public import proofs.«01_k».proof.Proof.Acc
public import proofs.«01_k».proof.Proof.Gen.KernelIdeal.Value
public import Idealize.ShloMosaic.Lib.Claim

@[expose] public section

set_option maxRecDepth 16384

noncomputable section

namespace Cert.KernelIdeal.KerVal

open Idealize.ShloMosaic Idealize.ShloMosaic.TcCoe Idealize.SL.Sem Cert.KernelIdeal Cert.KernelIdeal.Gen Cert.Spec Cert.KernelIdeal.Tile

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![0, 0, 0]
    ∧ win0_4.index t = ![0, 0] ∧ win0_5.index t = ![0, 0] ∧ win0_6.index t = ![t.val, 0] ∧ t.val < 256 :=
  (by decide +kernel : ∀ t : Fin grid0.N, _)

/-- The bias of each (query, key) pair as the kernel's host side gathers it. -/
def rows (T : FVec Ideal S225x12 .f32) : FVec Ideal S4096x12 .f32 :=
  Host.gather gather_S225x12_S4096x1_S4096x12_1_0_n_n_0_1_112 T
    (broadcastInDim S4096x1 ![0] bcast_S4096_S4096x1_0
      (select (constantI S4096 1 0#1)
        (addi ((fun i => lit0 (S4096.rowMajor i))) (broadcastInDim S4096 ![] bcast_S_S4096 (constantI S_ 32 225#32)))
        ((fun i => lit0 (S4096.rowMajor i)))))

theorem blk0 (t : Fin cfg0.N) (r : Fin 256) (k : Fin 384) :
    (show FVec Ideal S256x384 .f32 from iblk m c 0 t) (ix2 r k)
      = (show FVec Ideal S1024x64x384 .f32 from m ((c : Thread nD τ).loc main_arg0))
          (ix3 (⟨4 * t.val + r / 64, by have := (idx t).2.2.2.2.2.2.2; omega⟩ : Fin 1024) (⟨r % 64, by omega⟩ : Fin 64) k) := by
  blk_simp [iblk, idx t]
  entry_read
  pointwise
  blk_ext [idx t]

theorem blk1 (t : Fin cfg0.N) (r : Fin 384) (k : Fin 1152) :
    (show FVec Ideal S384x1152 .f32 from iblk m c 1 t) (ix2 r k)
      = (show FVec Ideal S384x1152 .f32 from m ((c : Thread nD τ).loc main_arg1)) (ix2 r k) := by
  blk_ext [iblk, V, idx t]

theorem blk2 (t : Fin cfg0.N) (k : Fin 1152) :
    (show FVec Ideal S1x1152 .f32 from iblk m c 2 t) (ix2 (0 : Fin 1) k)
      = (show FVec Ideal S1152 .f32 from m ((c : Thread nD τ).loc main_arg2)) (ix1 k) := by
  blk_simp [iblk, idx t]
  entry_read
  pointwise
  blk_ext [idx t]

theorem blk3 (t : Fin cfg0.N) (p : Fin 6) (k : Fin 64) (i : Fin 2) (n : Fin 64) :
    (show FVec Ideal S6x64x128 .f32 from iblk m c 3 t) (ix3 p k (⟨64 * i + n, by omega⟩ : Fin 128))
      = rows (m ((c : Thread nD τ).loc main_arg3)) (ix2 (⟨64 * n + k, by omega⟩ : Fin 4096) (⟨2 * p + i, by omega⟩ : Fin 12)) := by
  blk_simp [iblk, idx t]
  entry_read
  pointwise
  unfold rows
  blk_ext [idx t]

theorem blk4 (t : Fin cfg0.N) (r k : Fin 384) :
    (show FVec Ideal S384x384 .f32 from iblk m c 4 t) (ix2 r k)
      = (show FVec Ideal S384x384 .f32 from m ((c : Thread nD τ).loc main_arg4)) (ix2 r k) := by
  blk_ext [iblk, V, idx t]

theorem blk5 (t : Fin cfg0.N) (k : Fin 384) :
    (show FVec Ideal S1x384 .f32 from iblk m c 5 t) (ix2 (0 : Fin 1) k)
      = (show FVec Ideal S384 .f32 from m ((c : Thread nD τ).loc main_arg5)) (ix1 k) := by
  blk_simp [iblk, idx t]
  entry_read
  pointwise
  blk_ext [idx t]

section Block

variable (i : grid0.Coords) (arg1 : Memref sig .tc .vmem S256x384 .f32) (harg1 : arg1.IsWhole) (arg2 : Memref sig .tc .vmem S384x1152 .f32)
  (harg2 : arg2.IsWhole) (arg3 : Memref sig .tc .vmem S1x1152 .f32) (harg3 : arg3.IsWhole) (arg4 : Memref sig .tc .vmem S6x64x128 .f32)
  (harg4 : arg4.IsWhole) (arg5 : Memref sig .tc .vmem S384x384 .f32) (harg5 : arg5.IsWhole) (arg6 : Memref sig .tc .vmem S1x384 .f32)
  (harg6 : arg6.IsWhole) (arg7 : Memref sig .tc .vmem S256x384 .f32) (harg7 : arg7.IsWhole) (arg8 : Memref sig .tc .vmem S256x1152 .f32)
  (harg8 : arg8.IsWhole) (arg9 : Memref sig .tc .vmem S256x384 .f32) (harg9 : arg9.IsWhole)
  (x0 : Vec Ideal S256x384 .f32) (x1 : Vec Ideal S384x1152 .f32) (x2 : Vec Ideal S1x1152 .f32) (x3 : Vec Ideal S6x64x128 .f32)
  (x4 : Vec Ideal S384x384 .f32) (x5 : Vec Ideal S1x384 .f32)

/-- The block the body writes back is the second projection of the accumulator its stores leave. -/
theorem block_eq : out0_A_6 c i arg1 harg1 arg2 harg2 arg3 harg3 arg4 harg4 arg5 harg5 arg6 harg6 arg7 harg7 arg8 harg8 arg9 harg9 x0 x1 x2 x3 x4 x5
    = k0_pay2 (F := Ideal) (View.canon (stores c arg1 harg1 arg2 harg2 arg3 harg3 arg4 harg4 arg8 arg9 x0 x1 x2 x3 24)) x4 x5 := by
  rw [← stores_eq]
  unfold out0_A_6
  rw [View.read_writes_junk_eq_canon]
  unfold kernelRun0_A
  dsimp only
  rw [View.canon_cons_unit_lit' (h := by decide)]
  unfold kernelRun0_A.sl.v9568
  generalize kernelRun0_A.sl.HS1_25 c arg1 harg1 arg2 harg2 arg3 harg3 arg4 harg4 arg8 arg9 x0 x1 x2 x3 = L
  frame_out
  congr 1
  rw [View.readCov_eq_canon']
  funext j
  congr 1
  funext a
  fin_cases a <;> exact Fin.ext ((ValueKit.rect_emb_unit_val _ _ _ _ _).trans (by simp))

/-- The block written back, at row `q` of window `w`: the function's row for the input window `win w`. -/
theorem block_at (X : FVec Ideal ⟨3, ![1024, 64, 384]⟩ .f32) (W : FVec Ideal ⟨2, ![384, 1152]⟩ .f32) (B : FVec Ideal ⟨1, ![1152]⟩ .f32)
    (R : FVec Ideal ⟨2, ![4096, 12]⟩ .f32) (W' : FVec Ideal ⟨2, ![384, 384]⟩ .f32) (B' : FVec Ideal ⟨1, ![384]⟩ .f32) (win : Fin 4 → Fin 1024)
    (h0 : ∀ (w : Fin 4) (n : Fin 64) (k : Fin 384), (x0 : FVec Ideal S256x384 .f32) (ix2 (⟨64 * w + n, by omega⟩ : Fin 256) k) = X (ix3 (win w) n k))
    (h1 : ∀ (r : Fin 384) (k : Fin 1152), (x1 : FVec Ideal S384x1152 .f32) (ix2 r k) = W (ix2 r k))
    (h2 : ∀ k : Fin 1152, (x2 : FVec Ideal S1x1152 .f32) (ix2 (0 : Fin 1) k) = B (ix1 k))
    (h3 : ∀ (p : Fin 6) (k : Fin 64) (i : Fin 2) (n : Fin 64), (x3 : FVec Ideal S6x64x128 .f32) (ix3 p k (⟨64 * i + n, by omega⟩ : Fin 128))
      = R (ix2 (⟨64 * n + k, by omega⟩ : Fin 4096) (⟨2 * p + i, by omega⟩ : Fin 12)))
    (h4 : ∀ r k : Fin 384, (x4 : FVec Ideal S384x384 .f32) (ix2 r k) = W' (ix2 r k))
    (h5 : ∀ k : Fin 384, (x5 : FVec Ideal S1x384 .f32) (ix2 (0 : Fin 1) k) = B' (ix1 k))
    (hD : Distinct X W B R) (w : Fin 4) (q : Fin 64) (k : Fin 384) :
    (show FVec Ideal S256x384 .f32 from
      out0_A_6 c i arg1 harg1 arg2 harg2 arg3 harg3 arg4 harg4 arg5 harg5 arg6 harg6 arg7 harg7 arg8 harg8 arg9 harg9 x0 x1 x2 x3 x4 x5)
        (ix2 (⟨64 * w + q, by omega⟩ : Fin 256) k)
      = Spec.out X W B R W' B' (win w) q k := by
  have hP : ∀ (w : Fin 4) (n : Fin 64) (l : Fin 1152),
      View.canon (kernelRun0_A.sl.HS0_1 (F := Ideal) c arg1 harg1 arg2 harg2 arg3 harg3 x0 x1 x2) (ix2 (⟨64 * w + n, by omega⟩ : Fin 256) l : S256x1152.Idx)
        = proj X W B (win w) n l := fun w n l => by
    rw [projected, h2]
    unfold proj
    congr 1
    exact Finset.sum_congr rfl fun k _ => by rw [h0, h1]
  have hA := acc_all c arg1 harg1 arg2 harg2 arg3 harg3 arg4 harg4 arg8 arg9 x0 x1 x2 x3 win hP h3 hD w q
  rw [block_eq]
  generalize View.canon (stores c arg1 harg1 arg2 harg2 arg3 harg3 arg4 harg4 arg8 arg9 x0 x1 x2 x3 24) = A at hA
  trans (∑ l : Fin 384, (show FVec Ideal S256x384 .f32 from A) (ix2 (⟨64 * w + q, by omega⟩ : Fin 256) l) * (x4 : FVec Ideal S384x384 .f32) (ix2 l k))
      + (x5 : FVec Ideal S1x384 .f32) (ix2 (0 : Fin 1) k)
  · pointwise [k0_pay2]
  · unfold Spec.out
    rw [h5]
    congr 1
    refine Finset.sum_congr rfl fun l _ => ?_
    rw [h4]
    exact congrArg (· * W' (ix2 l k)) (hA l)

end Block

theorem kernel_final (hD : Distinct (m ((c : Thread nD τ).loc main_arg0)) (m ((c : Thread nD τ).loc main_arg1)) (m ((c : Thread nD τ).loc main_arg2))
      (rows (m ((c : Thread nD τ).loc main_arg3)))) :
    (dats m 0 c).arrAt 6 cfg0.N = fun i : S65536x384.Idx =>
      Spec.out (m ((c : Thread nD τ).loc main_arg0)) (m ((c : Thread nD τ).loc main_arg1)) (m ((c : Thread nD τ).loc main_arg2))
        (rows (m ((c : Thread nD τ).loc main_arg3))) (m ((c : Thread nD τ).loc main_arg4)) (m ((c : Thread nD τ).loc main_arg5))
        ⟨(i 0).val / 64, by have : (i 0).val < 65536 := (i 0).isLt; omega⟩ ⟨(i 0).val % 64, by omega⟩ (i 1) := by
  refine (dats m 0 c).arrAt_eq_of_covers 6 _ (by decide +kernel) fun t hf y => ?_
  blk_simp
  rw [after0_6]
  unfold outsAt0
  have ht := (idx t).2.2.2.2.2.2.2
  idx_vars y
  have e := block_at c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) scM0_1 (Memref.isWhole_whole _) (iblk m c 0 t) (iblk m c 1 t)
    (iblk m c 2 t) (iblk m c 3 t) (iblk m c 4 t) (iblk m c 5 t) _ _ _ _ _ _ (fun w => ⟨4 * t.val + w, by omega⟩)
    (fun w n k => (blk0 m c t _ k).trans (congrArg₂ (fun a b => (show FVec Ideal S1024x64x384 .f32 from m ((c : Thread nD τ).loc main_arg0)) (ix3 a b k))
      (Fin.ext (by show 4 * t.val + (64 * w.val + n.val) / 64 = 4 * t.val + w.val; omega)) (Fin.ext (by show (64 * w.val + n.val) % 64 = n.val; omega))))
    (blk1 m c t) (blk2 m c t) (blk3 m c t) (blk4 m c t) (blk5 m c t) hD ⟨y0 / 64, by omega⟩ ⟨y0 % 64, by omega⟩ y1
  have ey : (⟨64 * (y0.val / 64) + y0.val % 64, by omega⟩ : Fin 256) = y0 := Fin.ext (by show 64 * (y0.val / 64) + y0.val % 64 = y0.val; omega)
  refine ((congrArg (fun y => (show FVec Ideal S256x384 .f32 from out0_A_6 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) scM0_1 (Memref.isWhole_whole _) (iblk m c 0 t) (iblk m c 1 t)
    (iblk m c 2 t) (iblk m c 3 t) (iblk m c 4 t) (iblk m c 5 t)) (ix2 y y1)) ey).symm.trans e).trans ?_
  congr 1
  · refine Fin.ext ?_
    blk_simp [idx t]
    show 4 * t.val + y0.val / 64 = (t.val * 256 + y0.val) / 64
    omega
  · refine Fin.ext ?_
    blk_simp [idx t]
    show y0.val % 64 = (t.val * 256 + y0.val) % 64
    omega
  · refine Fin.ext ?_
    blk_simp [idx t]

end Cert.KernelIdeal.KerVal

end
-- ==== Proof.Ref.lean ====
/- The reference's result as a composition of its own stages, and each stage at an index. -/
module

public import proofs.«01_k».proof.Proof.Gen.ReferenceIdeal.Run
public import proofs.«01_k».proof.Proof.SortRow
public import Idealize.ShloMosaic.Lib.Pipeline.ValueKit

@[expose] public section

set_option maxRecDepth 16384

noncomputable section

namespace Cert.ReferenceIdeal.Plain

open Idealize.ShloMosaic Idealize.SL.Sem Cert.ReferenceIdeal Cert.ReferenceIdeal.Gen

/-- The projected input by role (query, key, value), window, head, row, lane. -/
def qkv (X : FVec Ideal S1024x64x384 .f32) (W : FVec Ideal S384x1152 .f32) (B : FVec Ideal S1152 .f32) : FVec Ideal S3x1024x12x64x32 .f32 :=
  transpose S3x1024x12x64x32 [2, 0, 3, 1, 4]
    (shapeCast S1024x64x3x12x32
      (addf (Host.dotGeneral dot_S1024x64x384_S384x1152_S1024x64x1152_2_0_01_1_n_n none X W)
        (broadcastInDim S1024x64x1152 ![0, 1, 2] bcast_S1x1x1152_S1024x64x1152_0_1_2 (broadcastInDim S1x1x1152 ![2] bcast_S1152_S1x1x1152_2 B)))
      shapeCasts_S1024x64x1152_S1024x64x3x12x32) transposes_S1024x64x3x12x32_S3x1024x12x64x32_2_0_3_1_4

/-- The queries, the keys and the values. -/
def qs (P : FVec Ideal S3x1024x12x64x32 .f32) : FVec Ideal S1024x12x64x32 .f32 :=
  shapeCast S1024x12x64x32 (extractStridedSlice S1x1024x12x64x32 ![0, 0, 0, 0, 0] P slices_S3x1024x12x64x32_S1x1024x12x64x32_0_0_0_0_0) shapeCasts_S1x1024x12x64x32_S1024x12x64x32
def ks (P : FVec Ideal S3x1024x12x64x32 .f32) : FVec Ideal S1024x12x64x32 .f32 :=
  shapeCast S1024x12x64x32 (extractStridedSlice S1x1024x12x64x32 ![1, 0, 0, 0, 0] P slices_S3x1024x12x64x32_S1x1024x12x64x32_1_0_0_0_0) shapeCasts_S1x1024x12x64x32_S1024x12x64x32
def vs (P : FVec Ideal S3x1024x12x64x32 .f32) : FVec Ideal S1024x12x64x32 .f32 :=
  shapeCast S1024x12x64x32 (extractStridedSlice S1x1024x12x64x32 ![2, 0, 0, 0, 0] P slices_S3x1024x12x64x32_S1x1024x12x64x32_2_0_0_0_0) shapeCasts_S1x1024x12x64x32_S1024x12x64x32

/-- The bias of each (query, key) pair, a row of the table for each. -/
def rows (T : FVec Ideal S225x12 .f32) : FVec Ideal S4096x12 .f32 :=
  Host.gather gather_S225x12_S4096x1_S4096x12_1_0_n_n_0_1_112 T
    (broadcastInDim S4096x1 ![0] bcast_S4096_S4096x1_0
      (select (constantI S4096 1 0#1)
        (addi ((fun i => lit0 (S4096.rowMajor i))) (broadcastInDim S4096 ![] bcast_S_S4096 (constantI S_ 32 225#32)))
        ((fun i => lit0 (S4096.rowMajor i)))))

/-- The scores from the projected input and the biases. -/
def attn (P : FVec Ideal S3x1024x12x64x32 .f32) (R : FVec Ideal S4096x12 .f32) : FVec Ideal S1024x12x64x64 .f32 :=
  addf
    (Host.dotGeneral dot_S1024x12x64x32_S1024x12x64x32_S1024x12x64x64_3_3_2_2_01_01 none
      (mulf (qs P) (broadcastInDim S1024x12x64x32 ![] bcast_S_S1024x12x64x32 (constant S_ .f32 0x3E3504F3#32))) (ks P))
    (broadcastInDim S1024x12x64x64 ![0, 1, 2, 3] bcast_S1x12x64x64_S1024x12x64x64_0_1_2_3
      (broadcastInDim S1x12x64x64 ![1, 2, 3] bcast_S12x64x64_S1x12x64x64_1_2_3
        (transpose S12x64x64 [2, 0, 1] (shapeCast S64x64x12 R shapeCasts_S4096x12_S64x64x12) transposes_S64x64x12_S12x64x64_2_0_1)))

/-- The greatest sixteen scores of each row, and their positions. -/
def best (A : FVec Ideal S1024x12x64x64 .f32) : FVec Ideal S1024x12x64x16 .f32 × IVec S1024x12x64x16 32 :=
  Host.topK S1024x12x64x16 3 (FloatOps.cmpfTotal .gt) A sliceFits_S1024x12x64x64_S1024x12x64x16

/-- A row of sixteen scores, exponentiated from its greatest. -/
def exps (V : FVec Ideal S1024x12x64x16 .f32) : FVec Ideal S1024x12x64x16 .f32 :=
  Host.exp (subf V (broadcastInDim S1024x12x64x16 ![0, 1, 2, 3] bcast_S1024x12x64x1_S1024x12x64x16_0_1_2_3
    (broadcastInDim S1024x12x64x1 ![0, 1, 2] bcast_S1024x12x64_S1024x12x64x1_0_1_2
      (maximumf (broadcastInDim S1024x12x64 ![] bcast_S_S1024x12x64 (constant S_ .f32 0xFF800000#32))
        (Host.reduce FloatOps.maximumf V (constant S_ .f32 0xFF800000#32) reducesTo_S1024x12x64x16_S1024x12x64_d3 h_S_)))))

/-- The sixteen weights. -/
def soft (V : FVec Ideal S1024x12x64x16 .f32) : FVec Ideal S1024x12x64x16 .f32 :=
  Host.divf (exps V) (broadcastInDim S1024x12x64x16 ![0, 1, 2, 3] bcast_S1024x12x64x1_S1024x12x64x16_0_1_2_3
    (broadcastInDim S1024x12x64x1 ![0, 1, 2] bcast_S1024x12x64_S1024x12x64x1_0_1_2
      (Host.reduceAdd (exps V) (constant S_ .f32 0x00000000#32) reducesTo_S1024x12x64x16_S1024x12x64_d3 h_S_)))

/-- The rows of values at the positions given. -/
def picked (U : FVec Ideal S1024x12x64x32 .f32) (J : IVec S1024x12x64x16 32) : FVec Ideal S1024x12x64x16x32 .f32 :=
  Host.gather gather_S1024x12x64x32_S1024x12x64x16x1_S1024x12x64x16x32_4_2_01_01_2_4_11132 U
    (broadcastInDim S1024x12x64x16x1 ![0, 1, 2, 3] bcast_S1024x12x64x16_S1024x12x64x16x1_0_1_2_3
      (select (cmpi .slt J (broadcastInDim S1024x12x64x16 ![] bcast_S_S1024x12x64x16 (constantI S_ 32 0#32)))
        (addi J (broadcastInDim S1024x12x64x16 ![] bcast_S_S1024x12x64x16 (constantI S_ 32 64#32))) J))

/-- The weighted sums of the picked rows. -/
def heads (w : FVec Ideal S1024x12x64x16 .f32) (G : FVec Ideal S1024x12x64x16x32 .f32) : FVec Ideal S1024x12x64x32 .f32 :=
  Host.reduceAdd
    (mulf (broadcastInDim S1024x12x64x16x32 ![0, 1, 2, 3, 4] bcast_S1024x12x64x16x1_S1024x12x64x16x32_0_1_2_3_4
      (broadcastInDim S1024x12x64x16x1 ![0, 1, 2, 3] bcast_S1024x12x64x16_S1024x12x64x16x1_0_1_2_3 w)) G)
    (constant S_ .f32 0x00000000#32) reducesTo_S1024x12x64x16x32_S1024x12x64x32_d3 h_S_

/-- The heads joined and projected. -/
def project (O : FVec Ideal S1024x12x64x32 .f32) (W' : FVec Ideal S384x384 .f32) (B' : FVec Ideal S384 .f32) : FVec Ideal S65536x384 .f32 :=
  shapeCast S65536x384
    (addf
      (Host.dotGeneral dot_S1024x64x384_S384x384_S1024x64x384_2_0_01_1_n_n none
        (shapeCast S1024x64x384 (transpose S1024x64x12x32 [0, 2, 1, 3] O transposes_S1024x12x64x32_S1024x64x12x32_0_2_1_3) shapeCasts_S1024x64x12x32_S1024x64x384) W')
      (broadcastInDim S1024x64x384 ![0, 1, 2] bcast_S1x1x384_S1024x64x384_0_1_2 (broadcastInDim S1x1x384 ![2] bcast_S384_S1x1x384_2 B')))
    shapeCasts_S1024x64x384_S65536x384

/-- The reference, stage by stage. -/
def result (X : FVec Ideal S1024x64x384 .f32) (W : FVec Ideal S384x1152 .f32) (B : FVec Ideal S1152 .f32) (T : FVec Ideal S225x12 .f32)
    (W' : FVec Ideal S384x384 .f32) (B' : FVec Ideal S384 .f32) : FVec Ideal S65536x384 .f32 :=
  project (heads (soft (best (attn (qkv X W B) (rows T))).1) (picked (vs (qkv X W B)) (best (attn (qkv X W B) (rows T))).2)) W' B'

/-- What the generated run leaves is the stages' composition. -/
theorem result_eq (m : (ℓ : Loc nD τ sig) → Buf (Elt Ideal) ℓ) (c : Dev nD) :
    Value.res_main_v53 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

end Cert.ReferenceIdeal.Plain

end
-- ==== Proof.RefVal.lean ====
/- The reference's stages at an index. -/
module

public import proofs.«01_k».proof.Proof.Ref
public import proofs.«01_k».proof.Proof.Spec
public import Idealize.ShloMosaic.Lib.Pointwise

@[expose] public section

set_option maxRecDepth 16384

noncomputable section

namespace Cert.ReferenceIdeal.Plain

open Idealize.ShloMosaic Idealize.SL.Sem Cert.ReferenceIdeal Cert.ReferenceIdeal.Gen Cert.Spec

theorem qkv_at (X : FVec Ideal S1024x64x384 .f32) (W : FVec Ideal S384x1152 .f32) (B : FVec Ideal S1152 .f32)
    (r : Fin 3) (b : Fin 1024) (h : Fin 12) (n : Fin 64) (d : Fin 32) :
    qkv X W B (ix5 r b h n d) = proj X W B b n (lane r h d) := by
  pointwise [qkv, proj]
  rw [show (⟨r.val * 384 + h.val * 32 + d.val, by omega⟩ : Fin 1152) = lane r h d from Fin.ext (by show r.val * 384 + h.val * 32 + d.val = 384 * r.val + (32 * h.val + d.val); omega)]

theorem qs_at (P : FVec Ideal S3x1024x12x64x32 .f32) (b : Fin 1024) (h : Fin 12) (n : Fin 64) (d : Fin 32) :
    qs P (ix4 b h n d) = P (ix5 0 b h n d) := by
  pointwise [qs]
theorem ks_at (P : FVec Ideal S3x1024x12x64x32 .f32) (b : Fin 1024) (h : Fin 12) (n : Fin 64) (d : Fin 32) :
    ks P (ix4 b h n d) = P (ix5 1 b h n d) := by
  pointwise [ks]
theorem vs_at (P : FVec Ideal S3x1024x12x64x32 .f32) (b : Fin 1024) (h : Fin 12) (n : Fin 64) (d : Fin 32) :
    vs P (ix4 b h n d) = P (ix5 2 b h n d) := by
  pointwise [vs]

theorem attn_at (X : FVec Ideal S1024x64x384 .f32) (W : FVec Ideal S384x1152 .f32) (B : FVec Ideal S1152 .f32) (R : FVec Ideal S4096x12 .f32)
    (b : Fin 1024) (h : Fin 12) (n k : Fin 64) :
    attn (qkv X W B) R (ix4 b h n k) = score X W B R b h n k := by
  pointwise [attn, score, qs_at, ks_at, qkv_at]
  rw [show (⟨n.val * 64 + k.val, by omega⟩ : Fin 4096) = ⟨64 * n.val + k.val, by omega⟩ from Fin.ext (by show n.val * 64 + k.val = 64 * n.val + k.val; omega)]

/-- The greatest of a row, folded from `-∞`, where one entry is the greatest. -/
theorem rowMax_at {A B C D : ℕ} (V : FVec Ideal (⟨4, ![A, B, C, D]⟩ : Shape) .f32) (init : FVec Ideal (⟨0, ![]⟩ : Shape) .f32)
    (hinit : ∀ i, init i = ⊥) (hr : (⟨4, ![A, B, C, D]⟩ : Shape).ReducesTo [3] (⟨3, ![A, B, C]⟩ : Shape)) (hu)
    (a : Fin A) (b : Fin B) (c : Fin C) (k₀ : Fin D) (hV : ∀ k, V (ix4 a b c k) ≤ V (ix4 a b c k₀)) :
    Host.reduce (FloatOps.maximumf (F := Ideal) (φ := .f32)) V init hr hu (ix3 a b c) = V (ix4 a b c k₀) := by
  have e : Host.reduce (FloatOps.maximumf (F := Ideal) (φ := .f32)) V init hr hu (ix3 a b c)
      = Finset.univ.fold max (init (Shape.Idx.first hu)) fun k : Fin D => V (ix4 a b c k) := by
    simp only [pointwise]
  rw [e, hinit]
  refine le_antisymm ?_ ?_
  · exact (Finset.fold_max_le _).2 ⟨bot_le, fun k _ => hV k⟩
  · exact (Finset.le_fold_max _).2 (Or.inr ⟨k₀, Finset.mem_univ _, le_rfl⟩)

theorem neg_inf : Ideal.ofBits .f32 0xFF800000#32 = (⊥ : EReal) := by
  simp [Ideal.ofBits, Ideal.ieee]

/-- The exponentials from given row maxima. -/
def expsOf (V : FVec Ideal S1024x12x64x16 .f32) (M : FVec Ideal S1024x12x64 .f32) : FVec Ideal S1024x12x64x16 .f32 :=
  Host.exp (subf V (broadcastInDim S1024x12x64x16 ![0, 1, 2, 3] bcast_S1024x12x64x1_S1024x12x64x16_0_1_2_3
    (broadcastInDim S1024x12x64x1 ![0, 1, 2] bcast_S1024x12x64_S1024x12x64x1_0_1_2
      (maximumf (broadcastInDim S1024x12x64 ![] bcast_S_S1024x12x64 (constant S_ .f32 0xFF800000#32)) M))))

theorem expsOf_at (V : FVec Ideal S1024x12x64x16 .f32) (M : FVec Ideal S1024x12x64 .f32)  (b : Fin 1024) (h : Fin 12) (n : Fin 64) (j : Fin 16) :
    expsOf V M (ix4 b h n j) = Ideal.exp (V (ix4 b h n j) - M (ix3 b h n)) := by
  pointwise [expsOf]
  rw [neg_inf, max_eq_right bot_le]

theorem start_inf (i : S_.Idx) : constant (F := Ideal) S_ .f32 0xFF800000#32 i = (⊥ : EReal) := by
  pointwise
  exact neg_inf

/-- The row maxima. -/
def rowMax (V : FVec Ideal S1024x12x64x16 .f32) : FVec Ideal S1024x12x64 .f32 :=
  Host.reduce FloatOps.maximumf V (constant S_ .f32 0xFF800000#32) reducesTo_S1024x12x64x16_S1024x12x64_d3 h_S_

theorem rowMax_first (V : FVec Ideal S1024x12x64x16 .f32) (b : Fin 1024) (h : Fin 12) (n : Fin 64)
    (hV : ∀ j, V (ix4 b h n j) ≤ V (ix4 b h n 0)) : rowMax V (ix3 b h n) = V (ix4 b h n 0) := by
  unfold rowMax
  exact rowMax_at V (constant S_ .f32 0xFF800000#32) start_inf reducesTo_S1024x12x64x16_S1024x12x64_d3 h_S_ b h n 0 hV

theorem exps_eq (V : FVec Ideal S1024x12x64x16 .f32) : exps V = expsOf V (rowMax V) := by
  unfold exps expsOf rowMax
  rfl

theorem exps_at (V : FVec Ideal S1024x12x64x16 .f32) (b : Fin 1024) (h : Fin 12) (n : Fin 64) (j : Fin 16)
    (hV : ∀ j, V (ix4 b h n j) ≤ V (ix4 b h n 0)) :
    exps V (ix4 b h n j) = Ideal.exp (V (ix4 b h n j) - V (ix4 b h n 0)) := by
  rw [exps_eq, expsOf_at, rowMax_first V b h n hV]

theorem soft_at (V : FVec Ideal S1024x12x64x16 .f32) (b : Fin 1024) (h : Fin 12) (n : Fin 64) (j : Fin 16)
    (hV : ∀ j, V (ix4 b h n j) ≤ V (ix4 b h n 0)) :
    soft V (ix4 b h n j) = Ideal.div (Ideal.exp (V (ix4 b h n j) - V (ix4 b h n 0))) (∑ j : Fin 16, Ideal.exp (V (ix4 b h n j) - V (ix4 b h n 0))) := by
  have e := fun j => exps_at V b h n j hV
  unfold soft
  generalize exps V = E at e ⊢
  pointwise [e]

theorem picked_at (U : FVec Ideal S1024x12x64x32 .f32) (J : IVec S1024x12x64x16 32) (b : Fin 1024) (h : Fin 12) (n : Fin 64) (j : Fin 16)
    (d : Fin 32) (k : Fin 64) (hk : J (ix4 b h n j) = BitVec.ofNat 32 k.val) :
    picked U J (ix5 b h n j d) = U (ix4 b h k d) := by
  have hidx : (broadcastInDim S1024x12x64x16x1 ![0, 1, 2, 3] bcast_S1024x12x64x16_S1024x12x64x16x1_0_1_2_3
        (select (cmpi .slt J (broadcastInDim S1024x12x64x16 ![] bcast_S_S1024x12x64x16 (constantI S_ 32 0#32)))
          (addi J (broadcastInDim S1024x12x64x16 ![] bcast_S_S1024x12x64x16 (constantI S_ 32 64#32))) J)) (ix5 b h n j (0 : Fin 1))
      = BitVec.ofNat 32 k.val := by
    pointwise [hk]
    have : ∀ k : Fin 64, Scalar.select (IntOp.cmpi .slt (BitVec.ofNat 32 k.val) 0#32) (IntOp.addi (BitVec.ofNat 32 k.val) 64#32) (BitVec.ofNat 32 k.val)
        = BitVec.ofNat 32 k.val := by decide
    exact this k
  unfold picked Host.gather
  generalize (broadcastInDim S1024x12x64x16x1 ![0, 1, 2, 3] bcast_S1024x12x64x16_S1024x12x64x16x1_0_1_2_3
        (select (cmpi .slt J (broadcastInDim S1024x12x64x16 ![] bcast_S_S1024x12x64x16 (constantI S_ 32 0#32)))
          (addi J (broadcastInDim S1024x12x64x16 ![] bcast_S_S1024x12x64x16 (constantI S_ 32 64#32))) J)) = I at hidx ⊢
  have hst : gather_S1024x12x64x32_S1024x12x64x16x1_S1024x12x64x16x32_4_2_01_01_2_4_11132.siIdx (ix5 b h n j d) ⟨0, Nat.one_pos⟩ = ix5 b h n j (0 : Fin 1) := by
    funext a
    fin_cases a <;> rfl
  refine congrArg U (funext fun a => Fin.ext ?_)
  match a with
  | ⟨0, _⟩ => show 0 + b.val + 0 = b.val; omega
  | ⟨1, _⟩ => show 0 + h.val + 0 = h.val; omega
  | ⟨2, _⟩ =>
    show min (I (gather_S1024x12x64x32_S1024x12x64x16x1_S1024x12x64x16x32_4_2_01_01_2_4_11132.siIdx (ix5 b h n j d) ⟨0, Nat.one_pos⟩)).toInt.toNat (64 - 1) + 0 + 0 = k.val
    rw [hst, hidx]
    have : ∀ k : Fin 64, min (BitVec.ofNat 32 k.val).toInt.toNat (64 - 1) + 0 + 0 = k.val := by decide
    exact this k
  | ⟨3, _⟩ => show 0 + 0 + d.val = d.val; omega

theorem heads_at (w : FVec Ideal S1024x12x64x16 .f32) (G : FVec Ideal S1024x12x64x16x32 .f32) (b : Fin 1024) (h : Fin 12) (n : Fin 64)
    (d : Fin 32) : heads w G (ix4 b h n d) = ∑ j : Fin 16, w (ix4 b h n j) * G (ix5 b h n j d) := by
  pointwise [heads]

theorem project_at (O : FVec Ideal S1024x12x64x32 .f32) (W' : FVec Ideal S384x384 .f32) (B' : FVec Ideal S384 .f32) (r : Fin 65536) (c : Fin 384) :
    project O W' B' (ix2 r c) = (∑ l : Fin 384, O (ix4 (⟨r / 64, by omega⟩ : Fin 1024) (⟨l / 32, by omega⟩ : Fin 12) (⟨r % 64, by omega⟩ : Fin 64)
      (⟨l % 32, by omega⟩ : Fin 32)) * W' (ix2 l c)) + B' (ix1 c) := by
  pointwise [project]

/-! ## The whole reference -/

section Whole

variable (X : FVec Ideal S1024x64x384 .f32) (W : FVec Ideal S384x1152 .f32) (B : FVec Ideal S1152 .f32) (R : FVec Ideal S4096x12 .f32)

theorem best_vals (b : Fin 1024) (h : Fin 12) (n : Fin 64) (j : Fin 16) :
    (best (attn (qkv X W B) R)).1 (ix4 b h n j) = score X W B R b h n (pick X W B R b h n j) := by
  refine (TopMath.topK_vals (attn (qkv X W B) R) sliceFits_S1024x12x64x64_S1024x12x64x16 (by omega) b h n j).trans ?_
  rw [show (fun k => attn (qkv X W B) R (ix4 b h n k)) = score X W B R b h n from funext fun k => attn_at X W B R b h n k]
  exact attn_at X W B R b h n _

theorem best_idx (b : Fin 1024) (h : Fin 12) (n : Fin 64) (j : Fin 16) :
    (best (attn (qkv X W B) R)).2 (ix4 b h n j) = BitVec.ofNat 32 (pick X W B R b h n j).val := by
  refine (TopMath.topK_idx (attn (qkv X W B) R) sliceFits_S1024x12x64x64_S1024x12x64x16 (by omega) b h n j).trans ?_
  rw [show (fun k => attn (qkv X W B) R (ix4 b h n k)) = score X W B R b h n from funext fun k => attn_at X W B R b h n k]
  rfl

theorem best_first (b : Fin 1024) (h : Fin 12) (n : Fin 64) (j : Fin 16) :
    (best (attn (qkv X W B) R)).1 (ix4 b h n j) ≤ (best (attn (qkv X W B) R)).1 (ix4 b h n 0) := by
  rw [best_vals, best_vals]
  rcases Nat.eq_zero_or_pos j.val with h0 | h0
  · rw [show j = 0 from Fin.ext h0]
  · exact TopMath.order_anti _ _ _ (show (⟨0, by omega⟩ : Fin 64) < ⟨j.val, by omega⟩ from h0)

theorem head_at (b : Fin 1024) (h : Fin 12) (n : Fin 64) (d : Fin 32) :
    heads (soft (best (attn (qkv X W B) R)).1) (picked (vs (qkv X W B)) (best (attn (qkv X W B) R)).2) (ix4 b h n d)
      = head X W B R b h n d := by
  rw [heads_at]
  refine Finset.sum_congr rfl fun j _ => ?_
  rw [soft_at _ b h n j (best_first X W B R b h n), picked_at _ _ b h n j d _ (best_idx X W B R b h n j), vs_at, qkv_at]
  simp only [best_vals]

theorem result_at (T : FVec Ideal S225x12 .f32) (W' : FVec Ideal S384x384 .f32) (B' : FVec Ideal S384 .f32) (r : Fin 65536) (c : Fin 384) :
    result X W B T W' B' (ix2 r c) = out X W B (rows T) W' B' ⟨r / 64, by omega⟩ ⟨r % 64, by omega⟩ c := by
  unfold result
  rw [project_at]
  simp only [head_at]
  rfl

end Whole

end Cert.ReferenceIdeal.Plain

end
-- ==== Proof.Pre.lean ====
/- What the precondition says of the scores, and that the three programs gather the biases by one table. -/
module

public import proofs.«01_k».proof.Pre_top_scores_distinct
public import proofs.«01_k».proof.Proof.RefVal
public import proofs.«01_k».proof.Proof.KerVal

@[expose] public section

set_option maxRecDepth 16384

noncomputable section

/-- The side conditions of the precondition's own operations. -/
theorem Cert.Pre_top_scores_distinct.facts : Cert.Pre_top_scores_distinct.Facts := by
  constructor <;> decide

namespace Cert.Tables

open Idealize.ShloMosaic Idealize.SL.Sem Cert.Spec Cert.TopMath

theorem kernel_table : ∀ i : Fin 4096, Cert.KernelIdeal.lit0 i = Cert.ReferenceIdeal.lit0 i := by decide +kernel
theorem pre_table : ∀ i : Fin 4096, Cert.Pre_top_scores_distinct.lit0 i = Cert.ReferenceIdeal.lit0 i := by decide +kernel

/-- The kernel's host side gathers the same biases as the reference. -/
theorem kernel_rows (T : FVec Ideal ⟨2, ![225, 12]⟩ .f32) : Cert.KernelIdeal.KerVal.rows T = Cert.ReferenceIdeal.Plain.rows T := by
  unfold Cert.KernelIdeal.KerVal.rows Cert.ReferenceIdeal.Plain.rows
  rw [show (fun i => Cert.KernelIdeal.lit0 (Cert.KernelIdeal.S4096.rowMajor i)) = (fun i => Cert.ReferenceIdeal.lit0 (Cert.ReferenceIdeal.S4096.rowMajor i)) from
    funext fun i => kernel_table _]
  rfl

end Cert.Tables

namespace Cert.Pre_top_scores_distinct

open Idealize.ShloMosaic Idealize.SL.Sem Cert.Spec Cert.TopMath

variable [Facts]

/-- The biases as the precondition gathers them. -/
def rows (T : FVec Ideal S225x12 .f32) : FVec Ideal S4096x12 .f32 :=
  Host.gather gather_S225x12_S4096x1_S4096x12_1_0_n_n_0_1_112 T
    (broadcastInDim S4096x1 ![0] Facts.bcast_S4096_S4096x1_0
      (select (constantI S4096 1 0#1)
        (addi ((fun i => lit0 (S4096.rowMajor i))) (broadcastInDim S4096 ![] Facts.bcast_S_S4096 (constantI S_ 32 225#32)))
        ((fun i => lit0 (S4096.rowMajor i)))))

theorem rows_eq (T : FVec Ideal S225x12 .f32) : rows T = Cert.ReferenceIdeal.Plain.rows T := by
  unfold rows Cert.ReferenceIdeal.Plain.rows
  rw [show (fun i => lit0 (S4096.rowMajor i)) = (fun i => Cert.ReferenceIdeal.lit0 (Cert.ReferenceIdeal.S4096.rowMajor i)) from
    funext fun i => Cert.Tables.pre_table _]
  rfl

/-- The seventeen greatest scores of each row. -/
def tops (A : FVec Ideal S1024x12x64x64 .f32) : FVec Ideal S1024x12x64x17 .f32 :=
  (Host.topK S1024x12x64x17 3 (FloatOps.cmpfTotal .gt) A Facts.sliceFits_S1024x12x64x64_S1024x12x64x17).1

/-- Each of a row's seventeen but the last is above the next, and finite or below. -/
def check (V : FVec Ideal S1024x12x64x17 .f32) : IVec S1024x12x64x16 1 :=
  andi (cmpf .ogt (extractStridedSlice S1024x12x64x16 ![0, 0, 0, 0] V Facts.slices_S1024x12x64x17_S1024x12x64x16_0_0_0_0)
      (extractStridedSlice S1024x12x64x16 ![0, 0, 0, 1] V Facts.slices_S1024x12x64x17_S1024x12x64x16_0_0_0_1))
    (cmpf .olt (extractStridedSlice S1024x12x64x16 ![0, 0, 0, 0] V Facts.slices_S1024x12x64x17_S1024x12x64x16_0_0_0_0)
      (broadcastInDim S1024x12x64x16 ![] Facts.bcast_S_S1024x12x64x16 (constant S_ .f32 0x7F800000#32)))

theorem fn_eq (X : FVec Ideal S1024x64x384 .f32) (W : FVec Ideal S384x1152 .f32) (B : FVec Ideal S1152 .f32) (T : FVec Ideal S225x12 .f32)
    (W' : FVec Ideal S384x384 .f32) (B' : FVec Ideal S384 .f32) :
    fn (F := Ideal) X W B T W' B' = check (tops (Cert.ReferenceIdeal.Plain.attn (Cert.ReferenceIdeal.Plain.qkv X W B) (rows T))) := rfl

theorem tops_at (X : FVec Ideal S1024x64x384 .f32) (W : FVec Ideal S384x1152 .f32) (B : FVec Ideal S1152 .f32) (R : FVec Ideal S4096x12 .f32)
    (b : Fin 1024) (h : Fin 12) (n : Fin 64) (j : Fin 17) :
    tops (Cert.ReferenceIdeal.Plain.attn (Cert.ReferenceIdeal.Plain.qkv X W B) R) (ix4 b h n j)
      = score X W B R b h n (order (score X W B R b h n) ⟨j, by omega⟩) := by
  refine (topK_vals (Cert.ReferenceIdeal.Plain.attn (Cert.ReferenceIdeal.Plain.qkv X W B) R) Facts.sliceFits_S1024x12x64x64_S1024x12x64x17 (by omega) b h n j).trans ?_
  rw [show (fun k => Cert.ReferenceIdeal.Plain.attn (Cert.ReferenceIdeal.Plain.qkv X W B) R (ix4 b h n k)) = score X W B R b h n from
    funext fun k => Cert.ReferenceIdeal.Plain.attn_at X W B R b h n k]
  exact Cert.ReferenceIdeal.Plain.attn_at X W B R b h n _

theorem and_true {p q : Bool} (h : IntOp.andi (BitVec.ofBool p) (BitVec.ofBool q) = 1#1) : p = true ∧ q = true := by
  revert h; cases p <;> cases q <;> decide

theorem check_at (V : FVec Ideal S1024x12x64x17 .f32) (b : Fin 1024) (h : Fin 12) (n : Fin 64) (j : Fin 16) (hc : check V (ix4 b h n j) = 1#1) :
    (V (ix4 b h n (⟨j + 1, by omega⟩ : Fin 17)) : EReal) < V (ix4 b h n (⟨j, by omega⟩ : Fin 17)) ∧ (V (ix4 b h n (⟨j, by omega⟩ : Fin 17)) : EReal) < ⊤ := by
  have e : check V (ix4 b h n j) = IntOp.andi (FloatOps.cmpf (F := Ideal) (φ := .f32) .ogt (V (ix4 b h n (⟨j, by omega⟩ : Fin 17))) (V (ix4 b h n (⟨j + 1, by omega⟩ : Fin 17))))
      (FloatOps.cmpf (F := Ideal) (φ := .f32) .olt (V (ix4 b h n (⟨j, by omega⟩ : Fin 17))) (Ideal.ofBits .f32 0x7F800000#32)) := by
    rw [show (⟨j.val + 1, by omega⟩ : Fin 17) = ⟨1 + j.val, by omega⟩ from Fin.ext (Nat.add_comm _ _)]
    pointwise [check]
  rw [e, show Ideal.ofBits .f32 0x7F800000#32 = (⊤ : EReal) by simp [Ideal.ofBits, Ideal.ieee]] at hc
  obtain ⟨h1, h2⟩ := and_true hc
  exact ⟨of_decide_eq_true h1, of_decide_eq_true h2⟩

/-- Where the precondition holds the scores it speaks of are apart. -/
theorem distinct (X : FVec Ideal S1024x64x384 .f32) (W : FVec Ideal S384x1152 .f32) (B : FVec Ideal S1152 .f32) (T : FVec Ideal S225x12 .f32)
    (W' : FVec Ideal S384x384 .f32) (B' : FVec Ideal S384 .f32) (hp : fn (F := Ideal) X W B T W' B' = fun _ => 1#1) :
    Distinct X W B (Cert.ReferenceIdeal.Plain.rows T) := by
  rw [fn_eq, rows_eq] at hp
  intro b h n
  have key := fun j : Fin 16 => check_at _ b h n j (congrFun hp (ix4 b h n j))
  simp only [tops_at] at key
  exact ⟨fun j => (key j).1, (key 0).2⟩

end Cert.Pre_top_scores_distinct

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KerVal
public import proofs.«01_k».proof.Proof.RefVal
public import proofs.«01_k».proof.Proof.Pre
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments alone and ends with every counter at zero. -/
theorem frameRef : Cert.quiescent_ReferenceIdeal (hReferenceIdeal := Cert.ReferenceIdeal.Gen.facts) := by
  intro m g _
  refine θ_run_and ?_ ?_
  · run_from Cert.ReferenceIdeal.Value.run m g
  · exact (θ_run Cert.ReferenceIdeal.defs _ _).mono (fun r _ => sem_eq_zero_of_no_sems rfl r.2)
      (Cert.ReferenceIdeal.Value.run m g)

/-- An index of the result is its row and its column. -/
theorem idx_eq (i : Cert.ReferenceIdeal.S65536x384.Idx) : i = ix2 (i 0) (i 1) := by
  funext a; fin_cases a <;> rfl

/-- Where the scores are apart the kernel leaves the reference's result. -/
theorem algebraic : Cert.algebraic_KernelIdeal_ReferenceIdeal_pre_top_scores_distinct (hKernelIdeal := Cert.KernelIdeal.Gen.facts)
    (hReferenceIdeal := Cert.ReferenceIdeal.Gen.facts) (hPre_top_scores_distinct := Cert.Pre_top_scores_distinct.facts) := by
  haveI := Cert.Pre_top_scores_distinct.facts
  pair_intro
  · run_from Cert.KernelIdeal.Gen.run_main m g
  · run_from Cert.ReferenceIdeal.Value.run m' g'
    obtain ⟨a0, a1, a2, a3, a4, a5⟩ := hagree c
    have hD := Cert.Pre_top_scores_distinct.distinct _ _ _ _ _ _ (hpre c)
    refine Eq.trans ?_ (Cert.KernelIdeal.KerVal.kernel_final m c (by rw [Cert.Tables.kernel_rows]; exact hD)).symm
    rw [Cert.Tables.kernel_rows, Cert.ReferenceIdeal.Plain.result_eq, a0, a1, a2, a3, a4, a5]
    funext i
    refine (congrArg _ (idx_eq i)).trans ?_
    exact Cert.ReferenceIdeal.Plain.result_at _ _ _ _ _ _ (i 0) (i 1)

theorem claim : Cert.Claim := ⟨Cert.Kernel.Gen.facts, Cert.KernelIdeal.Gen.facts, Cert.ReferenceIdeal.Gen.facts, Cert.Pre_top_scores_distinct.facts,
  fun m ρ _ => Cert.Kernel.Gen.frame m ρ,
  fun m ρ _ => Cert.KernelIdeal.Gen.frame m ρ,
  fun m ρ _ => Cert.KernelIdeal.Gen.frame m ρ,
  frameRef,
  fun m ρ _ => frameRef m ρ trivial,
  IdealRules.named_const.statement _ _ _ _ _ rfl,
  algebraic⟩

end Cert.Proof

end
